-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_peaks [hPre_finite_peaks : Cert.Pre_finite_peaks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_peaks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_peaks [hPre_finite_peaks : Cert.Pre_finite_peaks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_peaks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_peaks [hKernelIdeal : Cert.KernelIdeal.Facts] [hPre_finite_peaks : Cert.Pre_finite_peaks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_peaks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_peaks [hReferenceIdeal : Cert.ReferenceIdeal.Facts] [hPre_finite_peaks : Cert.Pre_finite_peaks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_peaks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_peaks [hKernelIdeal : Cert.KernelIdeal.Facts] [hReferenceIdeal : Cert.ReferenceIdeal.Facts] [hPre_finite_peaks : Cert.Pre_finite_peaks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_peaks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_peaks : Cert.Pre_finite_peaks.Facts),
    quiescent_Kernel (hKernel := hKernel)
    ∧ quiescent_KernelIdeal (hKernelIdeal := hKernelIdeal)
    ∧ quiescent_KernelIdeal_pre_finite_peaks (hKernelIdeal := hKernelIdeal) (hPre_finite_peaks := hPre_finite_peaks)
    ∧ quiescent_ReferenceIdeal (hReferenceIdeal := hReferenceIdeal)
    ∧ quiescent_ReferenceIdeal_pre_finite_peaks (hReferenceIdeal := hReferenceIdeal) (hPre_finite_peaks := hPre_finite_peaks)
    ∧ preserves_Kernel_KernelIdeal
    ∧ algebraic_KernelIdeal_ReferenceIdeal_pre_finite_peaks (hKernelIdeal := hKernelIdeal) (hReferenceIdeal := hReferenceIdeal) (hPre_finite_peaks := hPre_finite_peaks)
-- ==== Pre_finite_peaks.lean ====
abbrev S32768x768 : Shape := ⟨2, ![32768, 768]⟩
abbrev S768x768 : Shape := ⟨2, ![768, 768]⟩
abbrev S768 : Shape := ⟨1, ![768]⟩
abbrev S1x768 : Shape := ⟨2, ![1, 768]⟩
abbrev S_ : Shape := ⟨0, ![]⟩
abbrev S32768 : Shape := ⟨1, ![32768]⟩

class Facts : Prop where
  transposes_S768x768_S768x768_1_0 : S768x768.Transposes [1, 0] S768x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  reducesTo_S32768x768_S32768_d1 : S32768x768.ReducesTo [1] S32768
  h_S_ : 0 < S_.numel
  bcast_S_S32768 : S_.BroadcastsInDim S32768 (![] : Fin 0 → Fin S32768.rank)
  dot_S32768x768_S768x768_S32768x768_1_0_0_1_n_n_wf : DotDims.WF S32768x768 S768x768 S32768x768 [1] [0] [0] [1] [] []

variable [Facts]

def dot_S32768x768_S768x768_S32768x768_1_0_0_1_n_n : DotDims S32768x768 S768x768 S32768x768 where
  lhsContracting := [1]
  rhsContracting := [0]
  lhsNonContracting := [0]
  rhsNonContracting := [1]
  lhsBatch := []
  rhsBatch := []
  wf := dot_S32768x768_S768x768_S32768x768_1_0_0_1_n_n_wf
def fn {F : FTy → Type} [FloatOps F] (main_arg0 : FVec F S32768x768 .f32) (main_arg1 : FVec F S768x768 .f32) (main_arg2 : FVec F S768 .f32) : IVec S32768 1 :=
  let main_v0 : FVec F S768x768 .f32 := (transpose S768x768 [1, 0] · transposes_S768x768_S768x768_1_0) main_arg1
  let main_v1 : FVec F S32768x768 .f32 := (fun l r => Host.dotGeneral dot_S32768x768_S768x768_S32768x768_1_0_0_1_n_n none l r) main_arg0 main_v0
  let main_v2 : FVec F S1x768 .f32 := broadcastInDim S1x768 ![1] bcast_S768_S1x768_1 main_arg2
  let main_v3 : FVec F S32768x768 .f32 := broadcastInDim S32768x768 ![0, 1] bcast_S1x768_S32768x768_0_1 main_v2
  let main_v4 : FVec F S32768x768 .f32 := addf main_v1 main_v3
  let main_cst : FVec F S_ .f32 := constant S_ .f32 0xFF800000#32
  let main_v5 : FVec F S32768 .f32 := (fun x v => Host.reduce FloatOps.maximumf x v reducesTo_S32768x768_S32768_d1 h_S_) main_v4 main_cst
  let main_v6 : FVec F S32768 .f32 := Host.absf main_v5
  let main_cst_0 : FVec F S_ .f32 := constant S_ .f32 0x7F800000#32
  let main_v7 : FVec F S32768 .f32 := broadcastInDim S32768 ![] bcast_S_S32768 main_cst_0
  let main_v8 : IVec S32768 1 := cmpf .olt main_v6 main_v7
  main_v8
-- ==== Kernel.lean ====
abbrev S32768x768 : Shape := ⟨2, ![32768, 768]⟩
abbrev S768x768 : Shape := ⟨2, ![768, 768]⟩
abbrev S768 : Shape := ⟨1, ![768]⟩
abbrev S1x768 : Shape := ⟨2, ![1, 768]⟩
abbrev S4x2048x768 : Shape := ⟨3, ![4, 2048, 768]⟩
abbrev S4 : Shape := ⟨1, ![4]⟩
abbrev S1 : Shape := ⟨1, ![1]⟩
abbrev S_ : Shape := ⟨0, ![]⟩
abbrev S1x512x768 : Shape := ⟨3, ![1, 512, 768]⟩
abbrev S512x768 : Shape := ⟨2, ![512, 768]⟩
abbrev S1x2048x768 : Shape := ⟨3, ![1, 2048, 768]⟩
abbrev S2048x768 : Shape := ⟨2, ![2048, 768]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 6
  | .vmem => 4
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S768x768, .bf16⟩
  | .hbm, ⟨5, _⟩ => ⟨S32768x768, .f32⟩
  | .local _ .vmem, ⟨0, _⟩ => ⟨S768x768, .bf16⟩
  | .local _ .vmem, ⟨1, _⟩ => ⟨S1x768, .f32⟩
  | .local _ .vmem, ⟨2, _⟩ => ⟨S4x2048x768, .f32⟩
  | .local _ .vmem, ⟨3, _⟩ => ⟨S4x2048x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S768x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x768 : Shape := ⟨2, ![32768, 768]⟩
abbrev S768x768 : Shape := ⟨2, ![768, 768]⟩
abbrev S768 : Shape := ⟨1, ![768]⟩
abbrev S1x768 : Shape := ⟨2, ![1, 768]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S32768x768, .f32⟩
  | .hbm, ⟨5, _⟩ => ⟨S1x768, .f32⟩
  | .hbm, ⟨6, _⟩ => ⟨S32768x768, .f32⟩
  | .hbm, ⟨7, _⟩ => ⟨S32768x768, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x768, .f32⟩
  | .hbm, ⟨15, _⟩ => ⟨S32768x768, .f32⟩
  | .hbm, ⟨16, _⟩ => ⟨S32768x768, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x768, .f32⟩
  | .hbm, ⟨21, _⟩ => ⟨S32768x768, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Program.lean ====
/-
  The kernel's body as a program over tiles.

  The printed body is one straight line of transfers, waits, loads and stores with every offset a number.  Here the same
  operations are written over the tile's index: the token array is 16 tiles of 2048 rows, tile `i` passes through slot
  `i % 4` of the input ring and slot `i % 4` of the output ring, the first tile arrives and the last tile leaves in four
  pieces of 512 rows.  `body_eq` says that the printed body is this program.
-/
module

public import proofs.«01_k».proof.Proof.Gen.KernelIdeal.Points
public import proofs.«01_k».proof.Proof.Gen.KernelIdeal.Launch
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- A block of `R` rows, as it lies in a ring slot. -/
abbrev blk3 (R : ℕ) : Shape := ⟨3, ![1, R, 768]⟩
/-- A block of `R` rows, as it lies in the token array. -/
abbrev blk2 (R : ℕ) : Shape := ⟨2, ![R, 768]⟩

/-- The tokens, the result and the two rings. -/
abbrev xM : Memref sig .tc .hbm S32768x768 .f32 := Memref.whole main_arg0
abbrev outM : Memref sig .tc .hbm S32768x768 .f32 := Memref.whole main_v0
abbrev xb : Memref sig .tc .vmem S4x2048x768 .f32 := Memref.whole cc0_scratch0
abbrev ob : Memref sig .tc .vmem S4x2048x768 .f32 := Memref.whole cc0_scratch1

theorem inb3 {s r R : ℕ} (hs : s < 4) (hr : r + R ≤ 2048) :
    ∀ a, (![s, r, 0] : Fin 3 → ℕ) a + (blk3 R).size a ≤ S4x2048x768.size a := fun a => by
  fin_cases a <;> simp <;> omega
theorem inb2 {n R : ℕ} (h : n + R ≤ 32768) :
    ∀ a, (![n, 0] : Fin 2 → ℕ) a + (blk2 R).size a ≤ S32768x768.size a := fun a => by
  fin_cases a <;> simp <;> omega
theorem inb1 {k : ℕ} (h : k < 4) : ∀ a, (![k] : Fin 1 → ℕ) a + S1.size a ≤ S4.size a := fun a => by
  fin_cases a; simp; omega

/-- The sizes whose blocks the program squeezes. -/
abbrev Sq (R : ℕ) : Prop := (blk3 R).Squeezes (blk2 R)
theorem sq2048 : Sq 2048 := by decide
theorem sq512 : Sq 512 := by decide

/-- Rows `r … r+R-1` of slot `s` of a ring, rows `n … n+R-1` of a token array, cell `k` of four semaphores. -/
abbrev rect3 (s r R : ℕ) (hs : s < 4) (hr : r + R ≤ 2048) : Rect S4x2048x768 := Rect.unit (s := S4x2048x768) ![s, r, 0] (blk3 R).size (inb3 hs hr)
abbrev slotM (m : Memref sig .tc .vmem S4x2048x768 .f32) (s r R : ℕ) (hs : s < 4) (hr : r + R ≤ 2048) (hq : Sq R) :
    Memref sig .tc .vmem (blk2 R) .f32 :=
  (m.slice (rect3 s r R hs hr) (fun _ => rfl)).squeeze (blk2 R) hq
abbrev rowsM (m : Memref sig .tc .hbm S32768x768 .f32) (n R : ℕ) (h : n + R ≤ 32768) : Memref sig .tc .hbm (blk2 R) .f32 :=
  m.slice (Rect.unit (s := S32768x768) ![n, 0] (blk2 R).size (inb2 h)) (fun _ => rfl)
abbrev cell (a : DmaSems sig S4) (k : ℕ) (hk : k < 4) : DmaSem sig :=
  ((a.slice (Rect.unit (s := S4) ![k] S1.size (inb1 hk))).squeeze S_ squeezes_S1_S_).sem

/-- A block of rows copied into a ring slot, and the wait for it. -/
def copyIn (a : DmaSems sig S4) (k s r n R : ℕ) (hk : k < 4) (hs : s < 4) (hr : r + R ≤ 2048) (hn : n + R ≤ 32768) (hq : Sq R) :
    Prog (TpuEff nD τ sig (Elt F) Λ₀ .tc) PUnit :=
  Prog.lift (.enqueueDma (rowsM xM n R hn) (.here (slotM xb s r R hs hr hq)) (.dma (cell a k hk))
    (View.wordExact_bits rfl) ((View.wordExact_bits rfl).reshape _ _) ⟨Or.inl rfl, trivial⟩)
def waitIn (a : DmaSems sig S4) (k s r n R : ℕ) (hk : k < 4) (hs : s < 4) (hr : r + R ≤ 2048) (hn : n + R ≤ 32768) (hq : Sq R) :
    Prog (TpuEff nD τ sig (Elt F) Λ₀ .tc) PUnit :=
  Prog.lift (.waitDma2 (cell a k hk) (rowsM xM n R hn) (slotM xb s r R hs hr hq)
    (View.wordExact_bits rfl) ((View.wordExact_bits rfl).reshape _ _))
/-- A block of rows copied out of a ring slot into the result, and the wait for it. -/
def copyOut (a : DmaSems sig S4) (k s r n R : ℕ) (hk : k < 4) (hs : s < 4) (hr : r + R ≤ 2048) (hn : n + R ≤ 32768) (hq : Sq R) :
    Prog (TpuEff nD τ sig (Elt F) Λ₀ .tc) PUnit :=
  Prog.lift (.enqueueDma (slotM ob s r R hs hr hq) (.here (rowsM outM n R hn)) (.dma (cell a k hk))
    ((View.wordExact_bits rfl).reshape _ _) (View.wordExact_bits rfl) ⟨Or.inl rfl, trivial⟩)
def waitOut (a : DmaSems sig S4) (k s r n R : ℕ) (hk : k < 4) (hs : s < 4) (hr : r + R ≤ 2048) (hn : n + R ≤ 32768) (hq : Sq R) :
    Prog (TpuEff nD τ sig (Elt F) Λ₀ .tc) PUnit :=
  Prog.lift (.waitDma2 (cell a k hk) (slotM ob s r R hs hr hq) (rowsM outM n R hn)
    ((View.wordExact_bits rfl).reshape _ _) (View.wordExact_bits rfl))

/-- What one chunk of `512` rows computes: the logits `x · Wᵀ + b` with `x` rounded to bf16, their exponentials, and these
    times one over their row sums. -/
def pay512 (x : Vec F (blk3 512) .f32) (w : Vec F S768x768 .bf16) (b : Vec F S1x768 .f32) : Vec F (blk3 512) .f32 :=
  let e : FVec F S512x768 .f32 := exp (addf
    (matmul dot_S512x768_S768x768_S512x768_1_1_0_0_n_n none
      (truncf .bf16 (shapeCast S512x768 x shapeCasts_S1x512x768_S512x768 : FVec F S512x768 .f32) bitsLt_bf16_f32)
      (shapeCast S768x768 w shapeCasts_S768x768_S768x768) (constant S512x768 .f32 0x00000000#32))
    (broadcastTo S512x768 (shapeCast S1x768 b shapeCasts_S1x768_S1x768) broadcasts_S1x768_S512x768))
  let s : FVec F S512x1 .f32 := shapeCast S512x1 (multiReduction .add [1] S512 e 0x00000000#32 reduces_S512x768_S512 (.inl rfl) rfl) shapeCasts_S512_S512x1
  shapeCast S1x512x768 (mulf e (broadcastTo S512x768 (divf (broadcast S512x1 (Scalar.ofBits .f32 0x3F800000#32)) s) broadcasts_S512x1_S512x768))
    shapeCasts_S512x768_S1x512x768

/-- The same for a chunk of `1024` rows. -/
def pay1024 (x : Vec F (blk3 1024) .f32) (w : Vec F S768x768 .bf16) (b : Vec F S1x768 .f32) : Vec F (blk3 1024) .f32 :=
  let e : FVec F S1024x768 .f32 := exp (addf
    (matmul dot_S1024x768_S768x768_S1024x768_1_1_0_0_n_n none
      (truncf .bf16 (shapeCast S1024x768 x shapeCasts_S1x1024x768_S1024x768 : FVec F S1024x768 .f32) bitsLt_bf16_f32)
      (shapeCast S768x768 w shapeCasts_S768x768_S768x768) (constant S1024x768 .f32 0x00000000#32))
    (broadcastTo S1024x768 (shapeCast S1x768 b shapeCasts_S1x768_S1x768) broadcasts_S1x768_S1024x768))
  let s : FVec F S1024x1 .f32 := shapeCast S1024x1 (multiReduction .add [1] S1024 e 0x00000000#32 reduces_S1024x768_S1024 (.inl rfl) rfl) shapeCasts_S1024_S1024x1
  shapeCast S1x1024x768 (mulf e (broadcastTo S1024x768 (divf (broadcast S1024x1 (Scalar.ofBits .f32 0x3F800000#32)) s) broadcasts_S1024x1_S1024x768))
    shapeCasts_S1024x768_S1x1024x768

/-- One chunk: its rows, the weights and the bias are read, the result's old rows are read and dropped, the new ones
    stored. -/
def chunk (mw : Memref sig .tc .vmem S768x768 .bf16) (mb : Memref sig .tc .vmem S1x768 .f32)
    (R : ℕ) (h0 : 0 < (blk3 R).numel) (pay : Vec F (blk3 R) .f32 → Vec F S768x768 .bf16 → Vec F S1x768 .f32 → Vec F (blk3 R) .f32)
    (s r : ℕ) (hs : s < 4) (hr : r + R ≤ 2048) :
    Prog (TpuEff nD τ sig (Elt F) Λ₀ .tc) PUnit := do
  let x : Vec F (blk3 R) .f32 ← Prog.lift (.load xb (rect3 s r R hs hr).toLoadRect (View.loadsAt_vmem h0))
  let w : Vec F S768x768 .bf16 ← Prog.lift (.load mw (Rect.unit (s := S768x768) ![0, 0] S768x768.size inb_S768x768_S768x768_0_0).toLoadRect (View.loadsAt_vmem h_S768x768))
  let b : Vec F S1x768 .f32 ← Prog.lift (.load mb (Rect.unit (s := S1x768) ![0, 0] S1x768.size inb_S1x768_S1x768_0_0).toLoadRect (View.loadsAt_vmem h_S1x768))
  let _old : Vec F (blk3 R) .f32 ← Prog.lift (.load ob (rect3 s r R hs hr).toLoadRect (View.loadsAt_vmem h0))
  Prog.lift (.store ob (rect3 s r R hs hr) (pay x w b) Finset.univ (View.stores_vmem_bits_univ h0 rfl) (.inl rfl))

section Tiles
variable (mw : Memref sig .tc .vmem S768x768 .bf16) (mb : Memref sig .tc .vmem S1x768 .f32)

/-- Tile `i` in: start and wait. -/
def startX (i : ℕ) (hi : i < 16) : Prog (TpuEff nD τ sig (Elt F) Λ₀ .tc) PUnit :=
  copyIn cc0_scratch2 (i % 4) (i % 4) 0 (2048 * i) 2048 (by omega) (by omega) (by omega) (by omega) sq2048
def waitX (i : ℕ) (hi : i < 16) : Prog (TpuEff nD τ sig (Elt F) Λ₀ .tc) PUnit :=
  waitIn cc0_scratch2 (i % 4) (i % 4) 0 (2048 * i) 2048 (by omega) (by omega) (by omega) (by omega) sq2048
/-- Tile `i` out: start and wait. -/
def startO (i : ℕ) (hi : i < 16) : Prog (TpuEff nD τ sig (Elt F) Λ₀ .tc) PUnit :=
  copyOut cc0_scratch3 (i % 4) (i % 4) 0 (2048 * i) 2048 (by omega) (by omega) (by omega) (by omega) sq2048
def waitO (i : ℕ) (hi : i < 16) : Prog (TpuEff nD τ sig (Elt F) Λ₀ .tc) PUnit :=
  waitOut cc0_scratch3 (i % 4) (i % 4) 0 (2048 * i) 2048 (by omega) (by omega) (by omega) (by omega) sq2048
/-- The first tile's pieces in, the last tile's pieces out. -/
def startX0 (c : ℕ) (hc : c < 4) : Prog (TpuEff nD τ sig (Elt F) Λ₀ .tc) PUnit :=
  copyIn cc0_scratch4 c 0 (512 * c) (512 * c) 512 hc (by omega) (by omega) (by omega) sq512
def waitX0 (c : ℕ) (hc : c < 4) : Prog (TpuEff nD τ sig (Elt F) Λ₀ .tc) PUnit :=
  waitIn cc0_scratch4 c 0 (512 * c) (512 * c) 512 hc (by omega) (by omega) (by omega) sq512
def startOL (c : ℕ) (hc : c < 4) : Prog (TpuEff nD τ sig (Elt F) Λ₀ .tc) PUnit :=
  copyOut cc0_scratch5 c 3 (512 * c) (30720 + 512 * c) 512 hc (by omega) (by omega) (by omega) sq512
def waitOL (c : ℕ) (hc : c < 4) : Prog (TpuEff nD τ sig (Elt F) Λ₀ .tc) PUnit :=
  waitOut cc0_scratch5 c 3 (512 * c) (30720 + 512 * c) 512 hc (by omega) (by omega) (by omega) sq512

/-- A chunk of 512 rows, and the two chunks of 1024 rows of a whole tile. -/
def compS (s c : ℕ) (hs : s < 4) (hc : c < 4) : Prog (TpuEff nD τ sig (Elt F) Λ₀ .tc) PUnit :=
  chunk mw mb 512 h_S1x512x768 pay512 s (512 * c) hs (by omega)
def compL (s : ℕ) (hs : s < 4) : Prog (TpuEff nD τ sig (Elt F) Λ₀ .tc) PUnit := do
  chunk mw mb 1024 h_S1x1024x768 pay1024 s 0 hs (by omega)
  chunk mw mb 1024 h_S1x1024x768 pay1024 s 1024 hs (by omega)

/-- The transfers that start before anything is computed. -/
def prologue : Prog (TpuEff nD τ sig (Elt F) Λ₀ .tc) PUnit := do
  startX0 0 (by decide); startX0 1 (by decide); startX0 2 (by decide); startX0 3 (by decide)
  startX 1 (by decide); startX 2 (by decide); startX 3 (by decide)
/-- The first tile: each piece computed as it arrives. -/
def first : Prog (TpuEff nD τ sig (Elt F) Λ₀ .tc) PUnit := do
  waitX0 0 (by decide); compS mw mb 0 0 (by decide) (by decide)
  waitX0 1 (by decide); compS mw mb 0 1 (by decide) (by decide)
  waitX0 2 (by decide); compS mw mb 0 2 (by decide) (by decide)
  waitX0 3 (by decide); compS mw mb 0 3 (by decide) (by decide)
  startO 0 (by decide)
  startX 4 (by decide)
/-- A tile before any result's slot is used again. -/
def early (i : ℕ) (hi : i < 4) : Prog (TpuEff nD τ sig (Elt F) Λ₀ .tc) PUnit := do
  waitX i (by omega)
  compL mw mb (i % 4) (by omega)
  startO i (by omega)
  startX (i + 4) (by omega)
/-- A tile in the middle: the result's slot is waited for first, the next tile of the slot starts last. -/
def middle (i : ℕ) (hi : i + 4 < 12) : Prog (TpuEff nD τ sig (Elt F) Λ₀ .tc) PUnit := do
  waitX (i + 4) (by omega)
  waitO i (by omega)
  compL mw mb ((i + 4) % 4) (by omega)
  startO (i + 4) (by omega)
  startX (i + 4 + 4) (by omega)
/-- A tile after the last transfer in has started. -/
def late (i : ℕ) (hi : i + 4 < 15) : Prog (TpuEff nD τ sig (Elt F) Λ₀ .tc) PUnit := do
  waitX (i + 4) (by omega)
  waitO i (by omega)
  compL mw mb ((i + 4) % 4) (by omega)
  startO (i + 4) (by omega)
/-- The last tile: each piece sent out as it is computed; then every transfer out is waited for. -/
def last : Prog (TpuEff nD τ sig (Elt F) Λ₀ .tc) PUnit := do
  waitX 15 (by decide)
  waitO 11 (by decide)
  compS mw mb 3 0 (by decide) (by decide); startOL 0 (by decide)
  compS mw mb 3 1 (by decide) (by decide); startOL 1 (by decide)
  compS mw mb 3 2 (by decide) (by decide); startOL 2 (by decide)
  compS mw mb 3 3 (by decide) (by decide); startOL 3 (by decide)
  waitO 12 (by decide); waitO 13 (by decide); waitO 14 (by decide)
  waitOL 0 (by decide); waitOL 1 (by decide); waitOL 2 (by decide); waitOL 3 (by decide)

/-- The whole body. -/
def body : Prog (TpuEff nD τ sig (Elt F) Λ₀ .tc) PUnit := do
  prologue
  first mw mb
  early mw mb 1 (by decide); early mw mb 2 (by decide); early mw mb 3 (by decide)
  middle mw mb 0 (by decide); middle mw mb 1 (by decide); middle mw mb 2 (by decide); middle mw mb 3 (by decide)
  middle mw mb 4 (by decide); middle mw mb 5 (by decide); middle mw mb 6 (by decide); middle mw mb 7 (by decide)
  late mw mb 8 (by decide); late mw mb 9 (by decide); late mw mb 10 (by decide)
  last mw mb

end Tiles

/-- The printed body is this program. -/
theorem body_eq (mw : Memref sig .tc .vmem S768x768 .bf16) (hw : mw.IsWhole) (mb : Memref sig .tc .vmem S1x768 .f32) (hb : mb.IsWhole) :
    cc0__pipe_kernel (F := F) xM (Memref.isWhole_whole _) mw hw mb hb outM (Memref.isWhole_whole _) xb (Memref.isWhole_whole _)
      ob (Memref.isWhole_whole _) cc0_scratch2 cc0_scratch3 cc0_scratch4 cc0_scratch5 = body mw mb := by
  sl_kernel_rfl

end Cert.KernelIdeal.Hand

end
-- ==== Proof.Contents.lean ====
/-
  What the buffers hold, and where the transfers' ends lie in them.

  Row `n` of the result is a row of the chunk its tile was computed in: rows of the first and the last tile belong to
  chunks of 512, every other row to a chunk of 1024 (`outRow`).  A ring slot that holds tile `i` holds the tile's rows of
  the token array, or of the result, at its own row numbers (`shift`).  The lemmas say that each transfer's two ends read
  the same words, that a chunk's load reads the chunk's rows, and that a chunk's store leaves the result's.
-/
module

public import proofs.«01_k».proof.Proof.Program
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- Row `n` (below 32768), column `c` of a token array; row `r` (below `R`), column `c` of a block. -/
def ix2 (n : ℕ) (c : Fin 768) : S32768x768.Idx := Shape.pair ⟨n % 32768, Nat.mod_lt _ (by decide)⟩ c
def ix3 (R : ℕ) (hR : 0 < R) (r : ℕ) (c : Fin 768) : (blk3 R).Idx := fun a => match a with
  | 0 => ⟨0, Nat.one_pos⟩
  | 1 => ⟨r % R, Nat.mod_lt _ hR⟩
  | 2 => c

theorem idx2_ext {s : Fin 2 → ℕ} {x y : (⟨2, s⟩ : Shape).Idx} (h0 : (x 0 : ℕ) = y 0) (h1 : (x 1 : ℕ) = y 1) : x = y := by
  funext a; fin_cases a
  · exact Fin.ext h0
  · exact Fin.ext h1
theorem idx3_ext {s : Fin 3 → ℕ} {x y : (⟨3, s⟩ : Shape).Idx} (h0 : (x 0 : ℕ) = y 0) (h1 : (x 1 : ℕ) = y 1) (h2 : (x 2 : ℕ) = y 2) : x = y := by
  funext a; fin_cases a
  · exact Fin.ext h0
  · exact Fin.ext h1
  · exact Fin.ext h2

section Values
variable (X : S32768x768.Idx → Elt F .f32) (w : Vec F S768x768 .bf16) (b : Vec F S1x768 .f32)

/-- The `R` rows from row `n`, as a chunk reads them. -/
def blkOf (R n : ℕ) : Vec F (blk3 R) .f32 := fun j => X (ix2 (n + (j 1 : ℕ)) (j 2))
/-- A token array's tile `i`, seen from a ring slot. -/
def shift (i : ℕ) : S4x2048x768.Idx → Elt F .f32 := fun j => X (ix2 (2048 * i + (j 1 : ℕ)) (j 2))
/-- The result. -/
def outRow : S32768x768.Idx → Elt F .f32 := fun j =>
  if (j 0 : ℕ) < 2048 ∨ 30720 ≤ (j 0 : ℕ) then
    pay512 (blkOf X 512 (512 * ((j 0 : ℕ) / 512))) w b (ix3 512 (by decide) (j 0) (j 1))
  else
    pay1024 (blkOf X 1024 (1024 * ((j 0 : ℕ) / 1024))) w b (ix3 1024 (by decide) (j 0) (j 1))

/-! ## Where an index of a transfer's end lies -/

theorem emb_xb {s r R : ℕ} (hs : s < 4) (hr : r + R ≤ 2048) (hq : Sq R) (y : (blk2 R).Idx) :
    (slotM xb s r R hs hr hq).view.emb y = (rect3 s r R hs hr).emb (Fin.cons ⟨0, Nat.one_pos⟩ y) := by
  show (rect3 s r R hs hr).emb (Shape.reshapeEquiv _ y) = _
  rw [Shape.reshapeEquiv_cons_one (n := 2) (d := ![R, 768])]
theorem emb_ob {s r R : ℕ} (hs : s < 4) (hr : r + R ≤ 2048) (hq : Sq R) (y : (blk2 R).Idx) :
    (slotM ob s r R hs hr hq).view.emb y = (rect3 s r R hs hr).emb (Fin.cons ⟨0, Nat.one_pos⟩ y) := by
  show (rect3 s r R hs hr).emb (Shape.reshapeEquiv _ y) = _
  rw [Shape.reshapeEquiv_cons_one (n := 2) (d := ![R, 768])]

theorem shift_rect3 (i : ℕ) {s r R : ℕ} (hs : s < 4) (hr : r + R ≤ 2048) (z : (blk3 R).Idx) :
    shift X i ((rect3 s r R hs hr).emb z) = X (ix2 (2048 * i + r + (z 1 : ℕ)) (z 2)) := by
  refine congrArg X (idx2_ext ?_ ?_)
  · show (2048 * i + ((rect3 s r R hs hr).emb z 1 : ℕ)) % 32768 = (2048 * i + r + (z 1 : ℕ)) % 32768
    rw [show ((rect3 s r R hs hr).emb z 1 : ℕ) = r + (z 1 : ℕ) from ValueKit.rect_emb_unit_val (s := S4x2048x768) ![s, r, 0] _ (inb3 hs hr) z 1, Nat.add_assoc]
  · show ((rect3 s r R hs hr).emb z 2 : ℕ) = (z 2 : ℕ)
    exact (ValueKit.rect_emb_unit_val (s := S4x2048x768) ![s, r, 0] _ (inb3 hs hr) z 2).trans (Nat.zero_add _)

theorem rows_emb {n R : ℕ} (hn : n + R ≤ 32768) (y : (blk2 R).Idx) :
    X ((Rect.unit (s := S32768x768) ![n, 0] (blk2 R).size (inb2 hn)).emb y) = X (ix2 (n + (y 0 : ℕ)) (y 1)) := by
  have hy : (y 0 : ℕ) < R := (y 0).isLt
  refine congrArg X (idx2_ext ?_ ?_)
  · show _ = (n + (y 0 : ℕ)) % 32768
    rw [show ((Rect.unit (s := S32768x768) ![n, 0] (blk2 R).size (inb2 hn)).emb y 0 : ℕ) = n + (y 0 : ℕ) from
      ValueKit.rect_emb_unit_val (s := S32768x768) _ _ _ y 0, Nat.mod_eq_of_lt (by omega)]
  · exact (ValueKit.rect_emb_unit_val (s := S32768x768) _ _ _ y 1).trans (Nat.zero_add _)

/-- The two ends of a transfer of tile `i`'s rows hold the same words, in and out. -/
theorem read_in (i : ℕ) {s r n R : ℕ} (hs : s < 4) (hr : r + R ≤ 2048) (hn : n + R ≤ 32768) (hq : Sq R) (h : n = 2048 * i + r) :
    (slotM xb s r R hs hr hq).view.read (Elt F) (shift X i) = (rowsM xM n R hn).view.read (Elt F) X := by
  subst h; funext y
  show shift X i ((slotM xb s r R hs hr hq).view.emb y) = _
  rw [emb_xb, shift_rect3]
  exact (rows_emb X hn y).symm
theorem read_out (i : ℕ) {s r n R : ℕ} (hs : s < 4) (hr : r + R ≤ 2048) (hn : n + R ≤ 32768) (hq : Sq R) (h : n = 2048 * i + r) :
    (rowsM outM n R hn).view.read (Elt F) X = (slotM ob s r R hs hr hq).view.read (Elt F) (shift X i) := by
  subst h; funext y
  show _ = shift X i ((slotM ob s r R hs hr hq).view.emb y)
  rw [emb_ob, shift_rect3]
  exact rows_emb X hn y

/-- A chunk's load. -/
theorem read_chunk (i : ℕ) {s r R : ℕ} (hs : s < 4) (hr : r + R ≤ 2048) :
    (xb.access (rect3 s r R hs hr)).read (Elt F) (shift X i) = blkOf X R (2048 * i + r) :=
  funext fun z => shift_rect3 X i hs hr z

/-- A chunk's store. -/
theorem read_stored512 (i c : ℕ) {s : ℕ} (hs : s < 4) (hc : c < 4) (hi : i = 0 ∨ i = 15) :
    (ob.access (rect3 s (512 * c) 512 hs (by omega))).read (Elt F) (shift (outRow X w b) i) = pay512 (blkOf X 512 (2048 * i + 512 * c)) w b := by
  funext z
  have hz : (z 1 : ℕ) < 512 := (z 1).isLt
  have h0 : (z 0 : ℕ) < 1 := (z 0).isLt
  refine (shift_rect3 (outRow X w b) i hs (by omega) z).trans ?_
  have hn : (2048 * i + 512 * c + (z 1 : ℕ)) % 32768 = 2048 * i + 512 * c + (z 1 : ℕ) := Nat.mod_eq_of_lt (by omega)
  have e0 : ((ix2 (2048 * i + 512 * c + (z 1 : ℕ)) (z 2) 0 : Fin _) : ℕ) = 2048 * i + 512 * c + (z 1 : ℕ) := hn
  unfold outRow
  rw [e0, if_pos (by omega), show 512 * ((2048 * i + 512 * c + (z 1 : ℕ)) / 512) = 2048 * i + 512 * c by omega]
  refine congrArg _ (idx3_ext ?_ ?_ ?_)
  · show 0 = (z 0 : ℕ); omega
  · show (2048 * i + 512 * c + (z 1 : ℕ)) % 512 = (z 1 : ℕ); omega
  · rfl
theorem read_stored1024 (i c : ℕ) {s : ℕ} (hs : s < 4) (hc : c < 2) (hi : 1 ≤ i) (hi' : i ≤ 14) :
    (ob.access (rect3 s (1024 * c) 1024 hs (by omega))).read (Elt F) (shift (outRow X w b) i) = pay1024 (blkOf X 1024 (2048 * i + 1024 * c)) w b := by
  funext z
  have hz : (z 1 : ℕ) < 1024 := (z 1).isLt
  have h0 : (z 0 : ℕ) < 1 := (z 0).isLt
  refine (shift_rect3 (outRow X w b) i hs (by omega) z).trans ?_
  have hn : (2048 * i + 1024 * c + (z 1 : ℕ)) % 32768 = 2048 * i + 1024 * c + (z 1 : ℕ) := Nat.mod_eq_of_lt (by omega)
  have e0 : ((ix2 (2048 * i + 1024 * c + (z 1 : ℕ)) (z 2) 0 : Fin _) : ℕ) = 2048 * i + 1024 * c + (z 1 : ℕ) := hn
  unfold outRow
  rw [e0, if_neg (by omega), show 1024 * ((2048 * i + 1024 * c + (z 1 : ℕ)) / 1024) = 2048 * i + 1024 * c by omega]
  refine congrArg _ (idx3_ext ?_ ?_ ?_)
  · show 0 = (z 0 : ℕ); omega
  · show (2048 * i + 1024 * c + (z 1 : ℕ)) % 1024 = (z 1 : ℕ); omega
  · rfl

end Values

/-- What a view is written with is what it then reads: on its own elements the buffer holds any contents that read so. -/
theorem write_eq_of_read {κ : Kind} {sp : Space} {S : Shape} {e : EltTy} (v : View sig κ sp S e) (f g : v.ty.Contents (Elt F))
    (u : S.Idx → Elt F e) (h : v.read (Elt F) g = u) : ∀ i ∈ v.set, v.write (Elt F) f u Finset.univ i = g i := fun i hi => by
  rw [← h, View.write_read_eq_piecewise]
  exact Finset.piecewise_eq_of_mem _ _ _ hi

/-! ## The element sets, and how they split -/

/-- Rows `r … r+R-1` of ring slot `s`, rows `n … n+R-1` of a token array. -/
def slotS (s r R : ℕ) : Finset S4x2048x768.Idx := Finset.univ.filter fun j => (j 0 : ℕ) = s ∧ r ≤ (j 1 : ℕ) ∧ (j 1 : ℕ) < r + R
def rowsS (n R : ℕ) : Finset S32768x768.Idx := Finset.univ.filter fun j => n ≤ (j 0 : ℕ) ∧ (j 0 : ℕ) < n + R

theorem mem_slotS {s r R : ℕ} {j : S4x2048x768.Idx} : j ∈ slotS s r R ↔ (j 0 : ℕ) = s ∧ r ≤ (j 1 : ℕ) ∧ (j 1 : ℕ) < r + R := by
  simp [slotS]
theorem mem_rowsS {n R : ℕ} {j : S32768x768.Idx} : j ∈ rowsS n R ↔ n ≤ (j 0 : ℕ) ∧ (j 0 : ℕ) < n + R := by
  simp [rowsS]

theorem rect3_set {s r R : ℕ} (hs : s < 4) (hr : r + R ≤ 2048) : (rect3 s r R hs hr).set = slotS s r R := by
  ext j
  have h2 : (j 2 : ℕ) < 768 := (j 2).isLt
  rw [Rect.mem_set_unit, mem_slotS, Fin.forall_fin_succ, Fin.forall_fin_succ, Fin.forall_fin_succ]
  constructor
  · rintro ⟨⟨a, b⟩, ⟨c, d⟩, -⟩
    have a' : s ≤ (j 0 : ℕ) := a
    have b' : (j 0 : ℕ) < s + 1 := b
    exact ⟨by omega, c, d⟩
  · rintro ⟨a, c, d⟩
    refine ⟨⟨?_, ?_⟩, ⟨c, d⟩, ⟨Nat.zero_le _, ?_⟩, fun i => i.elim0⟩
    · show s ≤ (j 0 : ℕ); omega
    · show (j 0 : ℕ) < s + 1; omega
    · show (j 2 : ℕ) < 0 + 768; omega
theorem rect2_set {n R : ℕ} (hn : n + R ≤ 32768) : (Rect.unit (s := S32768x768) ![n, 0] (blk2 R).size (inb2 hn)).set = rowsS n R := by
  ext j
  have h1 : (j 1 : ℕ) < 768 := (j 1).isLt
  rw [Rect.mem_set_unit, mem_rowsS, Fin.forall_fin_succ, Fin.forall_fin_succ]
  constructor
  · rintro ⟨⟨a, b⟩, -⟩
    exact ⟨a, b⟩
  · rintro ⟨a, b⟩
    refine ⟨⟨a, b⟩, ⟨Nat.zero_le _, ?_⟩, fun i => i.elim0⟩
    show (j 1 : ℕ) < 0 + 768; omega

theorem xb_set {s r R : ℕ} (hs : s < 4) (hr : r + R ≤ 2048) (hq : Sq R) : (slotM xb s r R hs hr hq).view.set = slotS s r R :=
  ((View.set_reshape _ _).trans (View.set_slice_whole cc0_scratch0 _)).trans (rect3_set hs hr)
theorem ob_set {s r R : ℕ} (hs : s < 4) (hr : r + R ≤ 2048) (hq : Sq R) : (slotM ob s r R hs hr hq).view.set = slotS s r R :=
  ((View.set_reshape _ _).trans (View.set_slice_whole cc0_scratch1 _)).trans (rect3_set hs hr)
theorem x_set {n R : ℕ} (hn : n + R ≤ 32768) : (rowsM xM n R hn).view.set = rowsS n R :=
  (View.set_slice_whole main_arg0 _).trans (rect2_set hn)
theorem out_set {n R : ℕ} (hn : n + R ≤ 32768) : (rowsM outM n R hn).view.set = rowsS n R :=
  (View.set_slice_whole main_v0 _).trans (rect2_set hn)

theorem slots_all : (Finset.univ : Finset S4x2048x768.Idx) = Finset.univ.biUnion fun s : Fin 4 => slotS s 0 2048 := by
  ext j
  have h0 : (j 0 : ℕ) < 4 := (j 0).isLt
  have h1 : (j 1 : ℕ) < 2048 := (j 1).isLt
  simp only [Finset.mem_univ, Finset.mem_biUnion, true_and, mem_slotS, true_iff]
  exact ⟨⟨(j 0 : ℕ), h0⟩, rfl, Nat.zero_le _, by omega⟩
theorem slots_disj (s s' : ℕ) (r r' R R' : ℕ) (h : s ≠ s') : Disjoint (slotS s r R) (slotS s' r' R') :=
  Finset.disjoint_left.2 fun j h1 h2 => h ((mem_slotS.1 h1).1.symm.trans (mem_slotS.1 h2).1)

theorem slot_pieces (s n R : ℕ) (h : R * n = 2048) : slotS s 0 2048 = Finset.univ.biUnion fun c : Fin n => slotS s (R * c) R := by
  ext j
  have h1 : (j 1 : ℕ) < 2048 := (j 1).isLt
  have hR : 0 < R := Nat.pos_of_ne_zero fun e => by subst e; omega
  simp only [Finset.mem_univ, Finset.mem_biUnion, true_and, mem_slotS]
  constructor
  · rintro ⟨e, -, -⟩
    refine ⟨⟨(j 1 : ℕ) / R, (Nat.div_lt_iff_lt_mul hR).2 (by rw [Nat.mul_comm]; omega)⟩, e, Nat.mul_div_le _ _, ?_⟩
    have := Nat.lt_mul_div_succ (j 1 : ℕ) hR
    rwa [Nat.mul_add, Nat.mul_one] at this
  · rintro ⟨c, e, -, -⟩
    exact ⟨e, Nat.zero_le _, by omega⟩
theorem pieces_disj {s R c c' : ℕ} (h : c ≠ c') : Disjoint (slotS s (R * c) R) (slotS s (R * c') R) :=
  Finset.disjoint_left.2 fun j h1 h2 => by
    obtain ⟨-, a, b⟩ := mem_slotS.1 h1
    obtain ⟨-, a', b'⟩ := mem_slotS.1 h2
    rcases Nat.lt_or_gt_of_ne h with h | h
    · have := Nat.mul_le_mul_left R (Nat.succ_le_of_lt h); rw [Nat.mul_succ] at this; omega
    · have := Nat.mul_le_mul_left R (Nat.succ_le_of_lt h); rw [Nat.mul_succ] at this; omega

theorem tiles_all : (Finset.univ : Finset S32768x768.Idx) = Finset.univ.biUnion fun i : Fin 16 => rowsS (2048 * i) 2048 := by
  ext j
  have h0 : (j 0 : ℕ) < 32768 := (j 0).isLt
  simp only [Finset.mem_univ, Finset.mem_biUnion, true_and, mem_rowsS, true_iff]
  exact ⟨⟨(j 0 : ℕ) / 2048, by omega⟩, by show 2048 * ((j 0 : ℕ) / 2048) ≤ _; omega, by show _ < 2048 * ((j 0 : ℕ) / 2048) + 2048; omega⟩
theorem tiles_disj {i i' : ℕ} (h : i ≠ i') : Disjoint (rowsS (2048 * i) 2048) (rowsS (2048 * i') 2048) :=
  Finset.disjoint_left.2 fun j h1 h2 => by
    obtain ⟨a, b⟩ := mem_rowsS.1 h1
    obtain ⟨a', b'⟩ := mem_rowsS.1 h2
    omega
theorem tile_pieces (n : ℕ) : rowsS n 2048 = Finset.univ.biUnion fun c : Fin 4 => rowsS (n + 512 * c) 512 := by
  ext j
  simp only [Finset.mem_univ, Finset.mem_biUnion, true_and, mem_rowsS]
  constructor
  · rintro ⟨a, b⟩
    exact ⟨⟨((j 0 : ℕ) - n) / 512, by omega⟩, by show n + 512 * (((j 0 : ℕ) - n) / 512) ≤ _; omega,
      by show _ < n + 512 * (((j 0 : ℕ) - n) / 512) + 512; omega⟩
  · rintro ⟨c, a, b⟩
    have := c.isLt
    exact ⟨by omega, by omega⟩
theorem tile_pieces_disj (n : ℕ) {c c' : ℕ} (h : c ≠ c') : Disjoint (rowsS (n + 512 * c) 512) (rowsS (n + 512 * c') 512) :=
  Finset.disjoint_left.2 fun j h1 h2 => by
    obtain ⟨a, b⟩ := mem_rowsS.1 h1
    obtain ⟨a', b'⟩ := mem_rowsS.1 h2
    omega

end Cert.KernelIdeal.Hand

end
-- ==== Proof.Steps.lean ====
/-
  One operation of the body at a time.

  Every resource is a set of a buffer's elements held at named contents.  A transfer in takes a block's rows of the token
  array and a ring slot's rows at anything, and its flight delivers the slot's rows at the tile's and the token rows back;
  a transfer out takes the slot's rows at the result's and the result's rows at anything, and delivers both at the
  result's.  A chunk turns its slot rows of the output ring, at anything, into the result's.
-/
module

public import proofs.«01_k».proof.Proof.Contents
public import Idealize.ShloMosaic.Lib.Pipeline.FrameValue
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The body's weakest precondition. -/
abbrev wpb (c : Dev nD) (p : Prog (TpuEff nD τ sig (Elt F) Λ₀ .tc) PUnit) (Q : PUnit → sProp 𝕄) : sProp 𝕄 :=
  wp frame (wpE (defs₀ (F := F)) Variants.none (c : Thread nD τ) none) Set.univ p Q

/-- Elements of the four buffers the body moves, at named contents. -/
abbrev xPt (c : Dev nD) (S : Finset S32768x768.Idx) (f : S32768x768.Idx → Elt F .f32) : sProp 𝕄 :=
  (xM.view.loc (c : Thread nD τ)) ↦[S]{fullShare} f
abbrev outPt (c : Dev nD) (S : Finset S32768x768.Idx) (f : S32768x768.Idx → Elt F .f32) : sProp 𝕄 :=
  (outM.view.loc (c : Thread nD τ)) ↦[S]{fullShare} f
abbrev xbPt (c : Dev nD) (S : Finset S4x2048x768.Idx) (f : S4x2048x768.Idx → Elt F .f32) : sProp 𝕄 :=
  (xb.view.loc (c : Thread nD τ)) ↦[S]{fullShare} f
abbrev obPt (c : Dev nD) (S : Finset S4x2048x768.Idx) (f : S4x2048x768.Idx → Elt F .f32) : sProp 𝕄 :=
  (ob.view.loc (c : Thread nD τ)) ↦[S]{fullShare} f

/-- The credit of a transfer of `R` rows, in and out. -/
abbrev nIn (R : ℕ) : ℕ := cc0_scratch0.dmaCredit (blk2 R) .f32
abbrev nOut (R : ℕ) : ℕ := main_v0.dmaCredit (blk2 R) .f32

/-- A transfer in flight of `R` rows of tile `i` from token row `n` into row `r` of slot `s`, and one out. -/
abbrev flIn (c : Dev nD) (g : DmaSem sig) (s r n R i : ℕ) (X : S32768x768.Idx → Elt F .f32) : sProp 𝕄 :=
  Transfers.Flight countersEmb (c : Thread nD τ) (.dma g) () (nIn R) iprop(xbPt c (slotS s r R) (shift X i) ∗ xPt c (rowsS n R) X)
abbrev flOut (c : Dev nD) (g : DmaSem sig) (s r n R i : ℕ) (G : S32768x768.Idx → Elt F .f32) : sProp 𝕄 :=
  Transfers.Flight countersEmb (c : Thread nD τ) (.dma g) () (nOut R) iprop(outPt c (rowsS n R) G ∗ obPt c (slotS s r R) (shift G i))

variable (c : Dev nD) (X G : S32768x768.Idx → Elt F .f32)

/-- A program that has nothing left to do. -/
theorem ret_intro (Q : PUnit → sProp 𝕄) : Q ⟨⟩ ⊢ wpb c (.ret ⟨⟩) Q := by
  show Q ⟨⟩ ⊢ iprop(|={Set.univ}=> Q ⟨⟩)
  exact fupd_intro

theorem copyIn_spec (a : DmaSems sig S4) {k s r n R : ℕ} (i : ℕ) (hk : k < 4) (hs : s < 4) (hr : r + R ≤ 2048) (hn : n + R ≤ 32768) (hq : Sq R)
    (h : n = 2048 * i + r) (h0 : 0 < nIn R) (f : S4x2048x768.Idx → Elt F .f32) (Q : PUnit → sProp 𝕄) :
    iprop(xPt c (rowsS n R) X ∗ xbPt c (slotS s r R) f ∗ semVal ((c : Thread nD τ), .dma (cell a k hk)) 0)
      ⊢ iprop((flIn c (cell a k hk) s r n R i X -∗ Q ⟨⟩) -∗ wpb c (copyIn a k s r n R hk hs hr hn hq) Q) := by
  have e := Transfers.wp_dmaLocal (Ix := Unit) (Name := ℕ) (U := Pipeline.UD sig nD τ) (Lvl := ℕ) (defs := defs₀ (F := F)) countersEmb Variants.none (c : Thread nD τ) none
    (Q := Q) (src := rowsM xM n R hn) (via := ReadAs.same) (dst := slotM xb s r R hs hr hq) (sm := .dma (cell a k hk))
    (hsrc := View.wordExact_bits rfl) (hdst := (View.wordExact_bits rfl).reshape _ _) (hsem := ⟨Or.inl rfl, trivial⟩)
    (k := Prog.ret) (q := fullShare) (fs := X) (fd := f) (Sd := (slotM xb s r R hs hr hq).view.set)
    () (nIn R) rfl h0 (Finset.Subset.refl _)
  have hc : (xbPt c (slotM xb s r R hs hr hq).view.set
        ((slotM xb s r R hs hr hq).view.write (Elt F) f (ReadAs.same.apply ((rowsM xM n R hn).view.read (Elt F) X)) Finset.univ) : sProp 𝕄)
      = xbPt c (slotM xb s r R hs hr hq).view.set (shift X i) :=
    pointsTo_congr (write_eq_of_read (slotM xb s r R hs hr hq).view f (shift X i) _ (read_in X i hs hr hn hq h))
  have e' : iprop(xPt c (rowsM xM n R hn).view.set X ∗ xbPt c (slotM xb s r R hs hr hq).view.set f ∗ semVal ((c : Thread nD τ), .dma (cell a k hk)) 0)
      ⊢ iprop((Transfers.Flight countersEmb (c : Thread nD τ) (.dma (cell a k hk)) () (nIn R)
            iprop(xbPt c (slotM xb s r R hs hr hq).view.set
        ((slotM xb s r R hs hr hq).view.write (Elt F) f (ReadAs.same.apply ((rowsM xM n R hn).view.read (Elt F) X)) Finset.univ) ∗ xPt c (rowsM xM n R hn).view.set X)
            -∗ wpb c (.ret ⟨⟩) Q) -∗ wpb c (copyIn a k s r n R hk hs hr hn hq) Q) := e
  rw [hc, xb_set, x_set] at e'
  refine e'.trans (wand_mono (wand_mono .rfl ?_) .rfl)
  exact ret_intro c Q

theorem waitIn_spec (a : DmaSems sig S4) {k s r n R : ℕ} (hk : k < 4) (hs : s < 4) (hr : r + R ≤ 2048) (hn : n + R ≤ 32768) (hq : Sq R)
    (D : sProp 𝕄) (Q : PUnit → sProp 𝕄) :
    iprop(Transfers.Flight countersEmb (c : Thread nD τ) (.dma (cell a k hk)) () (nIn R) D ∗ (∃ W, owes (c : Thread nD τ) 0 W))
      ⊢ iprop((iprop(D ∗ semVal ((c : Thread nD τ), .dma (cell a k hk)) 0 ∗ (∃ W, owes (c : Thread nD τ) 0 W)) -∗ Q ⟨⟩)
          -∗ wpb c (waitIn a k s r n R hk hs hr hn hq) Q) := by
  iintro ⟨HF, ⟨%W, HO⟩⟩ Hk
  have e := Transfers.wp_waitLocal (Ix := Unit) (Name := ℕ) (U := Pipeline.UD sig nD τ) (Lvl := ℕ) (defs := defs₀ (F := F)) countersEmb Variants.none (c : Thread nD τ) none
    (Q := Q) (srcw := rowsM xM n R hn) (dstw := slotM xb s r R hs hr hq) (sem := cell a k hk)
    (hsrc := View.wordExact_bits rfl) (hdst := (View.wordExact_bits rfl).reshape _ _)
    (k := Prog.ret) () (N := nIn R) rfl (D := D) (W := W)
  iapply e $$ [HF HO]
  · isplitl [HF]; · iexact HF
    iexact HO
  iintro ⟨HD, HS, HO⟩
  iapply (ret_intro c Q)
  iapply Hk
  isplitl [HD]; · iexact HD
  isplitl [HS]; · iexact HS
  iexists _; iexact HO

theorem copyOut_spec (a : DmaSems sig S4) {k s r n R : ℕ} (i : ℕ) (hk : k < 4) (hs : s < 4) (hr : r + R ≤ 2048) (hn : n + R ≤ 32768) (hq : Sq R)
    (h : n = 2048 * i + r) (h0 : 0 < nOut R) (f : S32768x768.Idx → Elt F .f32) (Q : PUnit → sProp 𝕄) :
    iprop(obPt c (slotS s r R) (shift G i) ∗ outPt c (rowsS n R) f ∗ semVal ((c : Thread nD τ), .dma (cell a k hk)) 0)
      ⊢ iprop((flOut c (cell a k hk) s r n R i G -∗ Q ⟨⟩) -∗ wpb c (copyOut a k s r n R hk hs hr hn hq) Q) := by
  have e := Transfers.wp_dmaLocal (Ix := Unit) (Name := ℕ) (U := Pipeline.UD sig nD τ) (Lvl := ℕ) (defs := defs₀ (F := F)) countersEmb Variants.none (c : Thread nD τ) none
    (Q := Q) (src := slotM ob s r R hs hr hq) (via := ReadAs.same) (dst := rowsM outM n R hn) (sm := .dma (cell a k hk))
    (hsrc := (View.wordExact_bits rfl).reshape _ _) (hdst := View.wordExact_bits rfl) (hsem := ⟨Or.inl rfl, trivial⟩)
    (k := Prog.ret) (q := fullShare) (fs := shift G i) (fd := f) (Sd := (rowsM outM n R hn).view.set)
    () (nOut R) rfl h0 (Finset.Subset.refl _)
  have hc : (outPt c (rowsM outM n R hn).view.set
        ((rowsM outM n R hn).view.write (Elt F) f (ReadAs.same.apply ((slotM ob s r R hs hr hq).view.read (Elt F) (shift G i))) Finset.univ) : sProp 𝕄)
      = outPt c (rowsM outM n R hn).view.set G :=
    pointsTo_congr (write_eq_of_read (rowsM outM n R hn).view f G _ (read_out G i hs hr hn hq h))
  have e' : iprop(obPt c (slotM ob s r R hs hr hq).view.set (shift G i) ∗ outPt c (rowsM outM n R hn).view.set f ∗ semVal ((c : Thread nD τ), .dma (cell a k hk)) 0)
      ⊢ iprop((Transfers.Flight countersEmb (c : Thread nD τ) (.dma (cell a k hk)) () (nOut R)
            iprop(outPt c (rowsM outM n R hn).view.set
        ((rowsM outM n R hn).view.write (Elt F) f (ReadAs.same.apply ((slotM ob s r R hs hr hq).view.read (Elt F) (shift G i))) Finset.univ) ∗ obPt c (slotM ob s r R hs hr hq).view.set (shift G i))
            -∗ wpb c (.ret ⟨⟩) Q) -∗ wpb c (copyOut a k s r n R hk hs hr hn hq) Q) := e
  rw [hc, ob_set, out_set] at e'
  refine e'.trans (wand_mono (wand_mono .rfl ?_) .rfl)
  exact ret_intro c Q

theorem waitOut_spec (a : DmaSems sig S4) {k s r n R : ℕ} (hk : k < 4) (hs : s < 4) (hr : r + R ≤ 2048) (hn : n + R ≤ 32768) (hq : Sq R)
    (D : sProp 𝕄) (Q : PUnit → sProp 𝕄) :
    iprop(Transfers.Flight countersEmb (c : Thread nD τ) (.dma (cell a k hk)) () (nOut R) D ∗ (∃ W, owes (c : Thread nD τ) 0 W))
      ⊢ iprop((iprop(D ∗ semVal ((c : Thread nD τ), .dma (cell a k hk)) 0 ∗ (∃ W, owes (c : Thread nD τ) 0 W)) -∗ Q ⟨⟩)
          -∗ wpb c (waitOut a k s r n R hk hs hr hn hq) Q) := by
  iintro ⟨HF, ⟨%W, HO⟩⟩ Hk
  have e := Transfers.wp_waitLocal (Ix := Unit) (Name := ℕ) (U := Pipeline.UD sig nD τ) (Lvl := ℕ) (defs := defs₀ (F := F)) countersEmb Variants.none (c : Thread nD τ) none
    (Q := Q) (srcw := slotM ob s r R hs hr hq) (dstw := rowsM outM n R hn) (sem := cell a k hk)
    (hsrc := (View.wordExact_bits rfl).reshape _ _) (hdst := View.wordExact_bits rfl)
    (k := Prog.ret) () (N := nOut R) rfl (D := D) (W := W)
  iapply e $$ [HF HO]
  · isplitl [HF]; · iexact HF
    iexact HO
  iintro ⟨HD, HS, HO⟩
  iapply (ret_intro c Q)
  iapply Hk
  isplitl [HD]; · iexact HD
  isplitl [HS]; · iexact HS
  iexists _; iexact HO

/-- A load of a whole matrix through the rectangle at the origin reads the matrix. -/
theorem read_unit_zero2 {sp : Space} {d : Fin 2 → ℕ} {e : EltTy} (v : View sig .tc sp ⟨2, d⟩ e)
    (inb : ∀ a, (![0, 0] : Fin 2 → ℕ) a + (⟨2, d⟩ : Shape).size a ≤ (⟨2, d⟩ : Shape).size a) (f : v.ty.Contents (Elt F)) :
    (v.slice (Rect.unit (s := ⟨2, d⟩) ![0, 0] (⟨2, d⟩ : Shape).size inb)).read (Elt F) f = v.read (Elt F) f := by
  funext x
  have hx : (Rect.unit (s := ⟨2, d⟩) ![0, 0] (⟨2, d⟩ : Shape).size inb).emb x = x :=
    idx2_ext ((ValueKit.rect_emb_unit_val (s := ⟨2, d⟩) ![0, 0] _ inb x 0).trans (Nat.zero_add _))
      ((ValueKit.rect_emb_unit_val (s := ⟨2, d⟩) ![0, 0] _ inb x 1).trans (Nat.zero_add _))
  exact congrArg (v.read (Elt F) f) hx

/-- A chunk: from its rows of tile `i` in the input ring, the weights and the bias, and its rows of the output ring at
    anything, to the result's rows there. -/
theorem chunk_spec (mw : Memref sig .tc .vmem S768x768 .bf16) (mb : Memref sig .tc .vmem S1x768 .f32)
    (fw : Buf (Elt F) (mw.view.loc (c : Thread nD τ))) (fb : Buf (Elt F) (mb.view.loc (c : Thread nD τ)))
    {R : ℕ} (h0 : 0 < (blk3 R).numel) (pay : Vec F (blk3 R) .f32 → Vec F S768x768 .bf16 → Vec F S1x768 .f32 → Vec F (blk3 R) .f32)
    {s r : ℕ} (i : ℕ) (hs : s < 4) (hr : r + R ≤ 2048)
    (hG : (ob.access (rect3 s r R hs hr)).read (Elt F) (shift G i) = pay (blkOf X R (2048 * i + r)) (mw.view.read (Elt F) fw) (mb.view.read (Elt F) fb))
    (f : S4x2048x768.Idx → Elt F .f32) (Q : PUnit → sProp 𝕄) :
    iprop(xbPt c (slotS s r R) (shift X i) ∗ obPt c (slotS s r R) f
        ∗ (mw.view.loc (c : Thread nD τ) ↦[mw.view.set]{fullShare} fw) ∗ (mb.view.loc (c : Thread nD τ) ↦[mb.view.set]{fullShare} fb))
      ⊢ iprop((iprop(xbPt c (slotS s r R) (shift X i) ∗ obPt c (slotS s r R) (shift G i)
        ∗ (mw.view.loc (c : Thread nD τ) ↦[mw.view.set]{fullShare} fw) ∗ (mb.view.loc (c : Thread nD τ) ↦[mb.view.set]{fullShare} fb)) -∗ Q ⟨⟩)
          -∗ wpb c (chunk mw mb R h0 pay s r hs hr) Q) := by
  have hxs : (xb.access (rect3 s r R hs hr)).set = slotS s r R := (View.set_slice_whole cc0_scratch0 _).trans (rect3_set hs hr)
  have hos : (ob.access (rect3 s r R hs hr)).set = slotS s r R := (View.set_slice_whole cc0_scratch1 _).trans (rect3_set hs hr)
  have hp : chunk (F := F) mw mb R h0 pay s r hs hr = .op (.load xb (rect3 s r R hs hr).toLoadRect (View.loadsAt_vmem h0)) fun x =>
      .op (.load mw (Rect.unit (s := S768x768) ![0, 0] S768x768.size inb_S768x768_S768x768_0_0).toLoadRect (View.loadsAt_vmem h_S768x768)) fun w =>
      .op (.load mb (Rect.unit (s := S1x768) ![0, 0] S1x768.size inb_S1x768_S1x768_0_0).toLoadRect (View.loadsAt_vmem h_S1x768)) fun b =>
      .op (.load ob (rect3 s r R hs hr).toLoadRect (View.loadsAt_vmem h0)) fun _ =>
      .op (.store ob (rect3 s r R hs hr) (pay x w b) Finset.univ (View.stores_vmem_bits_univ h0 rfl) (.inl rfl)) .ret := rfl
  rw [hp]
  iintro ⟨HX, HO, HW, HB⟩ Hk
  iapply (wp_load_rect (defs := defs₀ (F := F)) Variants.none (c : Thread nD τ) none Set.univ (m := xb) (r := rect3 s r R hs hr) (f := shift X i) hxs.subset) $$ HX
  iintro HX
  iapply (wp_load_rect (defs := defs₀ (F := F)) Variants.none (c : Thread nD τ) none Set.univ (m := mw) (r := Rect.unit (s := S768x768) ![0, 0] S768x768.size inb_S768x768_S768x768_0_0) (f := fw) (View.set_slice_subset _ _)) $$ HW
  iintro HW
  iapply (wp_load_rect (defs := defs₀ (F := F)) Variants.none (c : Thread nD τ) none Set.univ (m := mb) (r := Rect.unit (s := S1x768) ![0, 0] S1x768.size inb_S1x768_S1x768_0_0) (f := fb) (View.set_slice_subset _ _)) $$ HB
  iintro HB
  iapply (wp_load_rect (defs := defs₀ (F := F)) Variants.none (c : Thread nD τ) none Set.univ (m := ob) (r := rect3 s r R hs hr) (f := f) hos.subset) $$ HO
  iintro HO
  iapply (wp_store (defs := defs₀ (F := F)) Variants.none (c : Thread nD τ) none Set.univ (m := ob) (r := rect3 s r R hs hr) (f := f) (Mk := Finset.univ) hos.subset) $$ HO
  iintro HO
  iapply (ret_intro c Q)
  iapply Hk
  isplitl [HX]; · iexact HX
  isplitl [HO]
  · have hc : (obPt c (slotS s r R) ((ob.access (rect3 s r R hs hr)).write (Elt F) f
          (pay ((xb.access (rect3 s r R hs hr)).read (Elt F) (shift X i))
            ((mw.access (Rect.unit (s := S768x768) ![0, 0] S768x768.size inb_S768x768_S768x768_0_0)).read (Elt F) fw)
            ((mb.access (Rect.unit (s := S1x768) ![0, 0] S1x768.size inb_S1x768_S1x768_0_0)).read (Elt F) fb)) Finset.univ) : sProp 𝕄)
        = obPt c (slotS s r R) (shift G i) := by
      refine pointsTo_congr fun j hj => write_eq_of_read (ob.access (rect3 s r R hs hr)) f (shift G i) _ ?_ j (hos ▸ hj)
      rw [hG, read_chunk, read_unit_zero2 mw.view, read_unit_zero2 mb.view]
    rw [← hc]; iexact HO
  isplitl [HW]; · iexact HW
  iexact HB

end Cert.KernelIdeal.Hand

end
-- ==== Proof.Tiles.lean ====
/-
  One tile of the body at a time.

  Tiles `lo … hi-1` are on their way in (`XS`): their token rows are with the flights, all other token rows are at home.
  Tiles before `lo` are out, tiles `lo … hi-1` are on their way out, the others' rows of the result are untouched (`OS`).
  Starting a transfer raises `hi`, waiting for one raises `lo`.
-/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem mod4 (i : ℕ) : i % 4 < 4 := Nat.mod_lt _ (by decide)

section Families
variable (c : Dev nD) (X G : S32768x768.Idx → Elt F .f32)

/-- What the core owes: nothing, whatever it has waited for. -/
abbrev owesE : sProp 𝕄 := iprop(∃ W, owes (c : Thread nD τ) 0 W)

/-- A slot of the input ring, or of the output ring, at anything, with its semaphore at zero. -/
abbrev xFreeS (s : ℕ) (hs : s < 4) : sProp 𝕄 :=
  iprop((∃ f : S4x2048x768.Idx → Elt F .f32, xbPt c (slotS s 0 2048) f) ∗ semVal ((c : Thread nD τ), .dma (cell cc0_scratch2 s hs)) 0)
abbrev oFreeS (s : ℕ) (hs : s < 4) : sProp 𝕄 :=
  iprop((∃ f : S4x2048x768.Idx → Elt F .f32, obPt c (slotS s 0 2048) f) ∗ semVal ((c : Thread nD τ), .dma (cell cc0_scratch3 s hs)) 0)

/-- The token rows, tile by tile, with tiles `lo … hi-1` on their way in. -/
def XS (lo hi i : ℕ) : sProp 𝕄 :=
  if lo ≤ i ∧ i < hi then flIn c (cell cc0_scratch2 (i % 4) (mod4 i)) (i % 4) 0 (2048 * i) 2048 i X
  else xPt c (rowsS (2048 * i) 2048) X
/-- The result's rows, tile by tile: out before `lo`, on their way from `lo` to `hi-1`, untouched from `hi`. -/
def OS (lo hi i : ℕ) : sProp 𝕄 :=
  if i < lo then outPt c (rowsS (2048 * i) 2048) G
  else if i < hi then flOut c (cell cc0_scratch3 (i % 4) (mod4 i)) (i % 4) 0 (2048 * i) 2048 i G
  else iprop(∃ f : S32768x768.Idx → Elt F .f32, outPt c (rowsS (2048 * i) 2048) f)

end Families

/-- One member of a family changes. -/
theorem bigSep_step {M : Type} [URA M] (S : Finset ℕ) (a : ℕ) (hm : a ∈ S) (Φ Ψ : ℕ → sProp M) (h : ∀ i, i ≠ a → Φ i = Ψ i) :
    bigSep S Φ ⊢ iprop(Φ a ∗ (Ψ a -∗ bigSep S Ψ)) := by
  rw [bigSep_erase hm, bigSep_erase (Φ := Ψ) hm,
    bigSep_congr (s := S.erase a) (Φ := Φ) (Ψ := Ψ) fun i hi => h i (Finset.ne_of_mem_erase hi)]
  show iprop(Φ a ∗ bigSep (S.erase a) Ψ) ⊢ iprop(Φ a ∗ (Ψ a -∗ (Ψ a ∗ bigSep (S.erase a) Ψ)))
  iintro ⟨H, HR⟩
  isplitl [H]; · iexact H
  iintro H
  isplitl [H]; · iexact H
  iexact HR

theorem wpb_seq (c : Dev nD) (p : Prog (TpuEff nD τ sig (Elt F) Λ₀ .tc) PUnit) (q : PUnit → Prog (TpuEff nD τ sig (Elt F) Λ₀ .tc) PUnit) (Q : PUnit → sProp 𝕄) :
    (wpb c (p >>= q) Q : sProp 𝕄) = wpb c p fun x => wpb c (q x) Q := wp_bind _ _ _ p q Q

section Ops
variable (c : Dev nD) (X G : S32768x768.Idx → Elt F .f32)

theorem startX_spec (S : Finset ℕ) (lo i : ℕ) (hS : i ∈ S) (hi : i < 16) (h : lo ≤ i) (Q : PUnit → sProp 𝕄) :
    iprop(bigSep S (XS c X lo i) ∗ xFreeS c (i % 4) (mod4 i))
      ⊢ iprop((bigSep S (XS c X lo (i + 1)) -∗ Q ⟨⟩) -∗ wpb c (startX i hi) Q) := by
  iintro ⟨HX, ⟨%f, HB⟩, HS⟩ Hk
  ihave HX := (bigSep_step S i hS (XS c X lo i) (XS c X lo (i + 1)) (fun j hj => by
    unfold XS; exact if_congr (by omega) rfl rfl))  $$ HX
  rw [show XS c X lo i i = xPt c (rowsS (2048 * i) 2048) X from if_neg (by omega),
    show XS c X lo (i + 1) i = flIn c (cell cc0_scratch2 (i % 4) (mod4 i)) (i % 4) 0 (2048 * i) 2048 i X from if_pos (by omega)]
  icases HX with ⟨HX, Hc⟩
  unfold startX
  iapply (copyIn_spec c X cc0_scratch2 i (mod4 i) (mod4 i) _ _ sq2048 (by omega) (by decide) f Q) $$ [HX HB HS]
  · isplitl [HX]; · iexact HX
    isplitl [HB]; · iexact HB
    iexact HS
  iintro HF
  iapply Hk
  iapply Hc
  iexact HF

theorem waitX_spec (S : Finset ℕ) (i hi : ℕ) (hS : i ∈ S) (hi' : i < 16) (h : i < hi) (Q : PUnit → sProp 𝕄) :
    iprop(bigSep S (XS c X i hi) ∗ owesE c)
      ⊢ iprop((iprop(bigSep S (XS c X (i + 1) hi) ∗ xbPt c (slotS (i % 4) 0 2048) (shift X i)
          ∗ semVal ((c : Thread nD τ), .dma (cell cc0_scratch2 (i % 4) (mod4 i))) 0 ∗ owesE c) -∗ Q ⟨⟩) -∗ wpb c (waitX i hi') Q) := by
  iintro ⟨HX, HW⟩ Hk
  ihave HX := (bigSep_step S i hS (XS c X i hi) (XS c X (i + 1) hi) (fun j hj => by
    unfold XS; exact if_congr (by omega) rfl rfl))  $$ HX
  rw [show XS c X i hi i = flIn c (cell cc0_scratch2 (i % 4) (mod4 i)) (i % 4) 0 (2048 * i) 2048 i X from if_pos (by omega),
    show XS c X (i + 1) hi i = xPt c (rowsS (2048 * i) 2048) X from if_neg (by omega)]
  icases HX with ⟨HX, Hc⟩
  unfold waitX
  iapply (waitIn_spec c cc0_scratch2 (mod4 i) (mod4 i) _ _ sq2048 _ Q) $$ [HX HW]
  · isplitl [HX]; · iexact HX
    iexact HW
  iintro ⟨⟨HB, HX⟩, HS, HW⟩
  iapply Hk
  isplitl [HX Hc]
  · iapply Hc; iexact HX
  isplitl [HB]; · iexact HB
  isplitl [HS]; · iexact HS
  iexact HW

theorem startO_spec (S : Finset ℕ) (lo i : ℕ) (hS : i ∈ S) (hi : i < 16) (h : lo ≤ i) (Q : PUnit → sProp 𝕄) :
    iprop(bigSep S (OS c G lo i) ∗ obPt c (slotS (i % 4) 0 2048) (shift G i)
        ∗ semVal ((c : Thread nD τ), .dma (cell cc0_scratch3 (i % 4) (mod4 i))) 0)
      ⊢ iprop((bigSep S (OS c G lo (i + 1)) -∗ Q ⟨⟩) -∗ wpb c (startO i hi) Q) := by
  iintro ⟨HX, HB, HS⟩ Hk
  ihave HX := (bigSep_step S i hS (OS c G lo i) (OS c G lo (i + 1)) (fun j hj => by
    unfold OS; exact if_congr Iff.rfl rfl (if_congr (by omega) rfl rfl))) $$ HX
  rw [show OS c G lo i i = iprop(∃ f : S32768x768.Idx → Elt F .f32, outPt c (rowsS (2048 * i) 2048) f) from
      (if_neg (by omega)).trans (if_neg (by omega)),
    show OS c G lo (i + 1) i = flOut c (cell cc0_scratch3 (i % 4) (mod4 i)) (i % 4) 0 (2048 * i) 2048 i G from (if_neg (by omega)).trans (if_pos (by omega))]
  icases HX with ⟨⟨%f, HX⟩, Hc⟩
  unfold startO
  iapply (copyOut_spec c G cc0_scratch3 i (mod4 i) (mod4 i) _ _ sq2048 (by omega) (by decide) f Q) $$ [HX HB HS]
  · isplitl [HB]; · iexact HB
    isplitl [HX]; · iexact HX
    iexact HS
  iintro HF
  iapply Hk
  iapply Hc
  iexact HF

theorem waitO_spec (S : Finset ℕ) (i hi : ℕ) (hS : i ∈ S) (hi' : i < 16) (h : i < hi) (Q : PUnit → sProp 𝕄) :
    iprop(bigSep S (OS c G i hi) ∗ owesE c)
      ⊢ iprop((iprop(bigSep S (OS c G (i + 1) hi) ∗ oFreeS c (i % 4) (mod4 i) ∗ owesE c) -∗ Q ⟨⟩) -∗ wpb c (waitO i hi') Q) := by
  iintro ⟨HX, HW⟩ Hk
  ihave HX := (bigSep_step S i hS (OS c G i hi) (OS c G (i + 1) hi) (fun j hj => by
    unfold OS; exact if_congr (by omega) rfl rfl)) $$ HX
  rw [show OS c G i hi i = flOut c (cell cc0_scratch3 (i % 4) (mod4 i)) (i % 4) 0 (2048 * i) 2048 i G from (if_neg (by omega)).trans (if_pos (by omega)),
    show OS c G (i + 1) hi i = outPt c (rowsS (2048 * i) 2048) G from if_pos (by omega)]
  icases HX with ⟨HX, Hc⟩
  unfold waitO
  iapply (waitOut_spec c cc0_scratch3 (mod4 i) (mod4 i) _ _ sq2048 _ Q) $$ [HX HW]
  · isplitl [HX]; · iexact HX
    iexact HW
  iintro ⟨⟨HX, HB⟩, HS, HW⟩
  iapply Hk
  isplitl [HX Hc]
  · iapply Hc; iexact HX
  isplitl [HB HS]
  · isplitl [HB]; · iexists _; iexact HB
    iexact HS
  iexact HW

end Ops

end Cert.KernelIdeal.Hand

end
-- ==== Proof.Pieces.lean ====
/-
  Slots and tiles in pieces, and the pieces of the body that work on them.

  A ring's slot, and a tile's rows, are the union of their pieces; a tile is computed piece by piece (`compS_spec`,
  `compL_spec`); the first tile arrives in four pieces (`prologue_spec`, `piece0_spec`), the last one leaves in four.
-/
module

public import proofs.«01_k».proof.Proof.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Slots and tiles in pieces -/

section Split
variable (c : Dev nD)

theorem xb_split2 (s : ℕ) (f : S4x2048x768.Idx → Elt F .f32) :
    (xbPt c (slotS s 0 2048) f : sProp 𝕄) = iprop(xbPt c (slotS s (1024 * 0) 1024) f ∗ xbPt c (slotS s (1024 * 1) 1024) f) := by
  rw [slot_pieces s 2 1024 rfl]
  refine (pointsTo_biUnion _ _ fun t _ t' _ h => pieces_disj (Fin.val_ne_of_ne h)).trans ?_
  exact bigSep_univ_eq_bigSepL [(0 : Fin 2), 1] (by decide) (by decide) _
theorem ob_split2 (s : ℕ) (f : S4x2048x768.Idx → Elt F .f32) :
    (obPt c (slotS s 0 2048) f : sProp 𝕄) = iprop(obPt c (slotS s (1024 * 0) 1024) f ∗ obPt c (slotS s (1024 * 1) 1024) f) := by
  rw [slot_pieces s 2 1024 rfl]
  refine (pointsTo_biUnion _ _ fun t _ t' _ h => pieces_disj (Fin.val_ne_of_ne h)).trans ?_
  exact bigSep_univ_eq_bigSepL [(0 : Fin 2), 1] (by decide) (by decide) _
theorem xb_split4 (s : ℕ) (f : S4x2048x768.Idx → Elt F .f32) :
    (xbPt c (slotS s 0 2048) f : sProp 𝕄) = iprop(xbPt c (slotS s (512 * 0) 512) f ∗ xbPt c (slotS s (512 * 1) 512) f
      ∗ xbPt c (slotS s (512 * 2) 512) f ∗ xbPt c (slotS s (512 * 3) 512) f) := by
  rw [slot_pieces s 4 512 rfl]
  refine (pointsTo_biUnion _ _ fun t _ t' _ h => pieces_disj (Fin.val_ne_of_ne h)).trans ?_
  exact bigSep_univ_eq_bigSepL [(0 : Fin 4), 1, 2, 3] (by decide) (by decide) _
theorem ob_split4 (s : ℕ) (f : S4x2048x768.Idx → Elt F .f32) :
    (obPt c (slotS s 0 2048) f : sProp 𝕄) = iprop(obPt c (slotS s (512 * 0) 512) f ∗ obPt c (slotS s (512 * 1) 512) f
      ∗ obPt c (slotS s (512 * 2) 512) f ∗ obPt c (slotS s (512 * 3) 512) f) := by
  rw [slot_pieces s 4 512 rfl]
  refine (pointsTo_biUnion _ _ fun t _ t' _ h => pieces_disj (Fin.val_ne_of_ne h)).trans ?_
  exact bigSep_univ_eq_bigSepL [(0 : Fin 4), 1, 2, 3] (by decide) (by decide) _
theorem x_split4 (n : ℕ) (f : S32768x768.Idx → Elt F .f32) :
    (xPt c (rowsS n 2048) f : sProp 𝕄) = iprop(xPt c (rowsS (n + 512 * 0) 512) f ∗ xPt c (rowsS (n + 512 * 1) 512) f
      ∗ xPt c (rowsS (n + 512 * 2) 512) f ∗ xPt c (rowsS (n + 512 * 3) 512) f) := by
  rw [tile_pieces n]
  refine (pointsTo_biUnion _ _ fun t _ t' _ h => tile_pieces_disj n (Fin.val_ne_of_ne h)).trans ?_
  exact bigSep_univ_eq_bigSepL [(0 : Fin 4), 1, 2, 3] (by decide) (by decide) _
theorem out_split4 (n : ℕ) (f : S32768x768.Idx → Elt F .f32) :
    (outPt c (rowsS n 2048) f : sProp 𝕄) = iprop(outPt c (rowsS (n + 512 * 0) 512) f ∗ outPt c (rowsS (n + 512 * 1) 512) f
      ∗ outPt c (rowsS (n + 512 * 2) 512) f ∗ outPt c (rowsS (n + 512 * 3) 512) f) := by
  rw [tile_pieces n]
  refine (pointsTo_biUnion _ _ fun t _ t' _ h => tile_pieces_disj n (Fin.val_ne_of_ne h)).trans ?_
  exact bigSep_univ_eq_bigSepL [(0 : Fin 4), 1, 2, 3] (by decide) (by decide) _

/-- A family over the sixteen tiles, as numbers or as a finite type. -/
theorem bigSep_range16 {M : Type} [URA M] (Φ : ℕ → sProp M) :
    bigSep (Finset.univ : Finset (Fin 16)) (fun i => Φ i) = bigSep (Finset.range 16) Φ := by
  have h : Finset.range 16 = (Finset.univ : Finset (Fin 16)).map Fin.valEmbedding := by decide
  rw [h, bigSep_map]; rfl

theorem x_tiles (f : S32768x768.Idx → Elt F .f32) :
    (xPt c Finset.univ f : sProp 𝕄) = bigSep (Finset.range 16) fun i => xPt c (rowsS (2048 * i) 2048) f := by
  rw [tiles_all, ← bigSep_range16]
  exact pointsTo_biUnion _ _ fun t _ t' _ h => tiles_disj (Fin.val_ne_of_ne h)
theorem out_tiles (f : S32768x768.Idx → Elt F .f32) :
    (outPt c Finset.univ f : sProp 𝕄) = bigSep (Finset.range 16) fun i => outPt c (rowsS (2048 * i) 2048) f := by
  rw [tiles_all, ← bigSep_range16]
  exact pointsTo_biUnion _ _ fun t _ t' _ h => tiles_disj (Fin.val_ne_of_ne h)

theorem xb_slots (f : S4x2048x768.Idx → Elt F .f32) :
    (xbPt c Finset.univ f : sProp 𝕄) = iprop(xbPt c (slotS 0 0 2048) f ∗ xbPt c (slotS 1 0 2048) f
      ∗ xbPt c (slotS 2 0 2048) f ∗ xbPt c (slotS 3 0 2048) f) := by
  rw [slots_all]
  refine (pointsTo_biUnion _ _ fun t _ t' _ h => slots_disj _ _ _ _ _ _ (Fin.val_ne_of_ne h)).trans ?_
  exact bigSep_univ_eq_bigSepL [(0 : Fin 4), 1, 2, 3] (by decide) (by decide) _
theorem ob_slots (f : S4x2048x768.Idx → Elt F .f32) :
    (obPt c Finset.univ f : sProp 𝕄) = iprop(obPt c (slotS 0 0 2048) f ∗ obPt c (slotS 1 0 2048) f
      ∗ obPt c (slotS 2 0 2048) f ∗ obPt c (slotS 3 0 2048) f) := by
  rw [slots_all]
  refine (pointsTo_biUnion _ _ fun t _ t' _ h => slots_disj _ _ _ _ _ _ (Fin.val_ne_of_ne h)).trans ?_
  exact bigSep_univ_eq_bigSepL [(0 : Fin 4), 1, 2, 3] (by decide) (by decide) _

/-- The contents that agree with each of four on its own slot. -/
def bySlot (f0 f1 f2 f3 : S4x2048x768.Idx → Elt F .f32) (j : S4x2048x768.Idx) : Elt F .f32 :=
  match (j 0).val with
  | 0 => f0 j
  | 1 => f1 j
  | 2 => f2 j
  | _ => f3 j

/-- Four slots at four contents are the ring at some contents. -/
theorem xb_join : iprop((∃ f : S4x2048x768.Idx → Elt F .f32, xbPt c (slotS 0 0 2048) f) ∗ (∃ f : S4x2048x768.Idx → Elt F .f32, xbPt c (slotS 1 0 2048) f)
      ∗ (∃ f : S4x2048x768.Idx → Elt F .f32, xbPt c (slotS 2 0 2048) f) ∗ (∃ f : S4x2048x768.Idx → Elt F .f32, xbPt c (slotS 3 0 2048) f))
    ⊢ (iprop(∃ f : S4x2048x768.Idx → Elt F .f32, xbPt c Finset.univ f) : sProp 𝕄) := by
  iintro ⟨⟨%f0, H0⟩, ⟨%f1, H1⟩, ⟨%f2, H2⟩, ⟨%f3, H3⟩⟩
  iexists (bySlot f0 f1 f2 f3)
  rw [xb_slots]
  have h : ∀ (s : ℕ) (g : S4x2048x768.Idx → Elt F .f32), (∀ j : S4x2048x768.Idx, (j 0).val = s → g j = bySlot f0 f1 f2 f3 j) →
      (xbPt c (slotS s 0 2048) g : sProp 𝕄) = xbPt c (slotS s 0 2048) (bySlot f0 f1 f2 f3) :=
    fun s g hg => pointsTo_congr fun j hj => hg j (mem_slotS.1 hj).1
  rw [← h 0 f0 fun j e => by rw [bySlot, e]; rfl, ← h 1 f1 fun j e => by rw [bySlot, e]; rfl,
    ← h 2 f2 fun j e => by rw [bySlot, e]; rfl, ← h 3 f3 fun j e => by rw [bySlot, e]; rfl]
  isplitl [H0]; · iexact H0
  isplitl [H1]; · iexact H1
  isplitl [H2]; · iexact H2
  iexact H3
theorem ob_join : iprop((∃ f : S4x2048x768.Idx → Elt F .f32, obPt c (slotS 0 0 2048) f) ∗ (∃ f : S4x2048x768.Idx → Elt F .f32, obPt c (slotS 1 0 2048) f)
      ∗ (∃ f : S4x2048x768.Idx → Elt F .f32, obPt c (slotS 2 0 2048) f) ∗ (∃ f : S4x2048x768.Idx → Elt F .f32, obPt c (slotS 3 0 2048) f))
    ⊢ (iprop(∃ f : S4x2048x768.Idx → Elt F .f32, obPt c Finset.univ f) : sProp 𝕄) := by
  iintro ⟨⟨%f0, H0⟩, ⟨%f1, H1⟩, ⟨%f2, H2⟩, ⟨%f3, H3⟩⟩
  iexists (bySlot f0 f1 f2 f3)
  rw [ob_slots]
  have h : ∀ (s : ℕ) (g : S4x2048x768.Idx → Elt F .f32), (∀ j : S4x2048x768.Idx, (j 0).val = s → g j = bySlot f0 f1 f2 f3 j) →
      (obPt c (slotS s 0 2048) g : sProp 𝕄) = obPt c (slotS s 0 2048) (bySlot f0 f1 f2 f3) :=
    fun s g hg => pointsTo_congr fun j hj => hg j (mem_slotS.1 hj).1
  rw [← h 0 f0 fun j e => by rw [bySlot, e]; rfl, ← h 1 f1 fun j e => by rw [bySlot, e]; rfl,
    ← h 2 f2 fun j e => by rw [bySlot, e]; rfl, ← h 3 f3 fun j e => by rw [bySlot, e]; rfl]
  isplitl [H0]; · iexact H0
  isplitl [H1]; · iexact H1
  isplitl [H2]; · iexact H2
  iexact H3

end Split

/-! ## Chunks and tiles -/

section Specs
variable (c : Dev nD) (X : S32768x768.Idx → Elt F .f32)
  (mw : Memref sig .tc .vmem S768x768 .bf16) (mb : Memref sig .tc .vmem S1x768 .f32)
  (fw : Buf (Elt F) (mw.view.loc (c : Thread nD τ))) (fb : Buf (Elt F) (mb.view.loc (c : Thread nD τ)))

/-- The weights and the bias, held throughout. -/
abbrev wbPt : sProp 𝕄 :=
  iprop((mw.view.loc (c : Thread nD τ) ↦[mw.view.set]{fullShare} fw) ∗ (mb.view.loc (c : Thread nD τ) ↦[mb.view.set]{fullShare} fb))

/-- What the result is to hold. -/
abbrev GG : S32768x768.Idx → Elt F .f32 := outRow X (mw.view.read (Elt F) fw) (mb.view.read (Elt F) fb)

theorem of_eq {P Q : sProp 𝕄} (h : P = Q) : P ⊢ Q := by subst h; exact .rfl

theorem xFreeS_of {a b : ℕ} (ha : a < 4) (hb : b < 4) (h : a = b) : (xFreeS c a ha : sProp 𝕄) = xFreeS c b hb := by
  subst h; rfl

theorem compS_spec (i k : ℕ) {s : ℕ} (hs : s < 4) (hk : k < 4) (hi : i = 0 ∨ i = 15) (f : S4x2048x768.Idx → Elt F .f32) (Q : PUnit → sProp 𝕄) :
    iprop(xbPt c (slotS s (512 * k) 512) (shift X i) ∗ obPt c (slotS s (512 * k) 512) f ∗ wbPt c mw mb fw fb)
      ⊢ iprop((iprop(xbPt c (slotS s (512 * k) 512) (shift X i) ∗ obPt c (slotS s (512 * k) 512) (shift (GG c X mw mb fw fb) i) ∗ wbPt c mw mb fw fb) -∗ Q ⟨⟩)
          -∗ wpb c (compS mw mb s k hs hk) Q) :=
  chunk_spec c X (GG c X mw mb fw fb) mw mb fw fb h_S1x512x768 pay512 i hs _ (read_stored512 X _ _ i k hs hk hi) f Q

theorem compL_spec (i : ℕ) {s : ℕ} (hs : s < 4) (hi : 1 ≤ i) (hi' : i ≤ 14) (Q : PUnit → sProp 𝕄) :
    iprop(xbPt c (slotS s 0 2048) (shift X i) ∗ (∃ f : S4x2048x768.Idx → Elt F .f32, obPt c (slotS s 0 2048) f) ∗ wbPt c mw mb fw fb)
      ⊢ iprop((iprop(xbPt c (slotS s 0 2048) (shift X i) ∗ obPt c (slotS s 0 2048) (shift (GG c X mw mb fw fb) i) ∗ wbPt c mw mb fw fb) -∗ Q ⟨⟩)
          -∗ wpb c (compL mw mb s hs) Q) := by
  unfold compL
  rw [wpb_seq, xb_split2 c s, ob_split2 c s (shift (GG c X mw mb fw fb) i)]
  iintro ⟨⟨HX0, HX1⟩, ⟨%f, HO⟩, HW⟩ Hk
  ihave HO := (of_eq (ob_split2 c s f)) $$ HO
  icases HO with ⟨HO0, HO1⟩
  iapply (chunk_spec c X (GG c X mw mb fw fb) mw mb fw fb h_S1x1024x768 pay1024 i hs _ (read_stored1024 X _ _ i 0 hs (by decide) hi hi') f _) $$ [HX0 HO0 HW]
  · isplitl [HX0]; · iexact HX0
    isplitl [HO0]; · iexact HO0
    iexact HW
  iintro ⟨HX0, HO0, HW⟩
  iapply (chunk_spec c X (GG c X mw mb fw fb) mw mb fw fb h_S1x1024x768 pay1024 i hs _ (read_stored1024 X _ _ i 1 hs (by decide) hi hi') f _) $$ [HX1 HO1 HW]
  · isplitl [HX1]; · iexact HX1
    isplitl [HO1]; · iexact HO1
    iexact HW
  iintro ⟨HX1, HO1, HW⟩
  iapply Hk
  isplitl [HX0 HX1]
  · isplitl [HX0]; · iexact HX0
    iexact HX1
  isplitl [HO0 HO1]
  · isplitl [HO0]; · iexact HO0
    iexact HO1
  iexact HW

/-- A piece of the first tile on its way in. -/
abbrev P0 (k : ℕ) (hk : k < 4) : sProp 𝕄 := flIn c (cell cc0_scratch4 k hk) 0 (512 * k) (512 * k) 512 0 X
/-- A piece of the last tile on its way out. -/
abbrev PL (G : S32768x768.Idx → Elt F .f32) (k : ℕ) (hk : k < 4) : sProp 𝕄 := flOut c (cell cc0_scratch5 k hk) 3 (512 * k) (30720 + 512 * k) 512 15 G
abbrev sem0 (k : ℕ) (hk : k < 4) : sProp 𝕄 := semVal ((c : Thread nD τ), .dma (cell cc0_scratch4 k hk)) 0
abbrev semL (k : ℕ) (hk : k < 4) : sProp 𝕄 := semVal ((c : Thread nD τ), .dma (cell cc0_scratch5 k hk)) 0

theorem startX0_spec (k : ℕ) (hk : k < 4) (f : S4x2048x768.Idx → Elt F .f32) (Q : PUnit → sProp 𝕄) :
    iprop(xPt c (rowsS (0 + 512 * k) 512) X ∗ xbPt c (slotS 0 (512 * k) 512) f ∗ sem0 c k hk)
      ⊢ iprop((P0 c X k hk -∗ Q ⟨⟩) -∗ wpb c (startX0 k hk) Q) := by
  rw [Nat.zero_add]
  exact copyIn_spec c X cc0_scratch4 0 hk (by decide) _ _ sq512 (by omega) (by decide) f Q

theorem waitX0_spec (k : ℕ) (hk : k < 4) (Q : PUnit → sProp 𝕄) :
    iprop(P0 c X k hk ∗ owesE c)
      ⊢ iprop((iprop((xbPt c (slotS 0 (512 * k) 512) (shift X 0) ∗ xPt c (rowsS (0 + 512 * k) 512) X) ∗ sem0 c k hk ∗ owesE c) -∗ Q ⟨⟩)
          -∗ wpb c (waitX0 k hk) Q) := by
  rw [Nat.zero_add]
  exact waitIn_spec c cc0_scratch4 hk (by decide) _ _ sq512 _ Q

theorem startOL_spec (G : S32768x768.Idx → Elt F .f32) (k : ℕ) (hk : k < 4) (f : S32768x768.Idx → Elt F .f32) (Q : PUnit → sProp 𝕄) :
    iprop(obPt c (slotS 3 (512 * k) 512) (shift G 15) ∗ outPt c (rowsS (30720 + 512 * k) 512) f ∗ semL c k hk)
      ⊢ iprop((PL c G k hk -∗ Q ⟨⟩) -∗ wpb c (startOL k hk) Q) :=
  copyOut_spec c G cc0_scratch5 15 hk (by decide) _ _ sq512 (by omega) (by decide) f Q

theorem waitOL_spec (G : S32768x768.Idx → Elt F .f32) (k : ℕ) (hk : k < 4) (Q : PUnit → sProp 𝕄) :
    iprop(PL c G k hk ∗ owesE c)
      ⊢ iprop((iprop((outPt c (rowsS (30720 + 512 * k) 512) G ∗ obPt c (slotS 3 (512 * k) 512) (shift G 15)) ∗ semL c k hk ∗ owesE c) -∗ Q ⟨⟩)
          -∗ wpb c (waitOL k hk) Q) :=
  waitOut_spec c cc0_scratch5 hk (by decide) _ _ sq512 _ Q

theorem prologue_spec (S : Finset ℕ) (h1 : 1 ∈ S) (h2 : 2 ∈ S) (h3 : 3 ∈ S) (f : S4x2048x768.Idx → Elt F .f32) (Q : PUnit → sProp 𝕄) :
    iprop(xPt c (rowsS 0 2048) X ∗ xbPt c (slotS 0 0 2048) f ∗ sem0 c 0 (by decide) ∗ sem0 c 1 (by decide) ∗ sem0 c 2 (by decide) ∗ sem0 c 3 (by decide)
        ∗ bigSep S (XS c X 1 1) ∗ xFreeS c 1 (by decide) ∗ xFreeS c 2 (by decide) ∗ xFreeS c 3 (by decide))
      ⊢ iprop((iprop(P0 c X 0 (by decide) ∗ P0 c X 1 (by decide) ∗ P0 c X 2 (by decide) ∗ P0 c X 3 (by decide) ∗ bigSep S (XS c X 1 4)) -∗ Q ⟨⟩)
          -∗ wpb c prologue Q) := by
  unfold prologue
  simp only [wpb_seq]
  rw [x_split4 c 0, xb_split4 c 0]
  iintro ⟨⟨HX0, HX1, HX2, HX3⟩, ⟨HB0, HB1, HB2, HB3⟩, HS0, HS1, HS2, HS3, HX, HF1, HF2, HF3⟩ Hk
  iapply (startX0_spec c X 0 _ f _) $$ [HX0 HB0 HS0]
  · isplitl [HX0]; · iexact HX0
    isplitl [HB0]; · iexact HB0
    iexact HS0
  iintro HP0
  iapply (startX0_spec c X 1 _ f _) $$ [HX1 HB1 HS1]
  · isplitl [HX1]; · iexact HX1
    isplitl [HB1]; · iexact HB1
    iexact HS1
  iintro HP1
  iapply (startX0_spec c X 2 _ f _) $$ [HX2 HB2 HS2]
  · isplitl [HX2]; · iexact HX2
    isplitl [HB2]; · iexact HB2
    iexact HS2
  iintro HP2
  iapply (startX0_spec c X 3 _ f _) $$ [HX3 HB3 HS3]
  · isplitl [HX3]; · iexact HX3
    isplitl [HB3]; · iexact HB3
    iexact HS3
  iintro HP3
  iapply (startX_spec c X S 1 1 h1 _ (by decide) _) $$ [HX HF1]
  · isplitl [HX]; · iexact HX
    iexact HF1
  iintro HX
  iapply (startX_spec c X S 1 2 h2 _ (by decide) _) $$ [HX HF2]
  · isplitl [HX]; · iexact HX
    iexact HF2
  iintro HX
  iapply (startX_spec c X S 1 3 h3 _ (by decide) _) $$ [HX HF3]
  · isplitl [HX]; · iexact HX
    iexact HF3
  iintro HX
  iapply Hk
  isplitl [HP0]; · iexact HP0
  isplitl [HP1]; · iexact HP1
  isplitl [HP2]; · iexact HP2
  isplitl [HP3]; · iexact HP3
  iexact HX

/-- One piece of the first tile: it arrives and is computed. -/
theorem piece0_spec (k : ℕ) (hk : k < 4) (f : S4x2048x768.Idx → Elt F .f32) (p : PUnit → Prog (TpuEff nD τ sig (Elt F) Λ₀ .tc) PUnit) (Q : PUnit → sProp 𝕄) :
    iprop(P0 c X k hk ∗ obPt c (slotS 0 (512 * k) 512) f ∗ wbPt c mw mb fw fb ∗ owesE c)
      ⊢ iprop((iprop(xPt c (rowsS (0 + 512 * k) 512) X ∗ xbPt c (slotS 0 (512 * k) 512) (shift X 0)
            ∗ obPt c (slotS 0 (512 * k) 512) (shift (GG c X mw mb fw fb) 0) ∗ sem0 c k hk ∗ wbPt c mw mb fw fb ∗ owesE c) -∗ wpb c (p ⟨⟩) Q)
          -∗ wpb c (waitX0 k hk) fun _ => wpb c (compS mw mb 0 k (by decide) hk) fun x => wpb c (p x) Q) := by
  iintro ⟨HP, HO, HW, HE⟩ Hk
  iapply (waitX0_spec c X k hk _) $$ [HP HE]
  · isplitl [HP]; · iexact HP
    iexact HE
  iintro ⟨⟨HB, HX⟩, HS, HE⟩
  iapply (compS_spec c X mw mb fw fb 0 k _ hk (Or.inl rfl) f _) $$ [HB HO HW]
  · isplitl [HB]; · iexact HB
    isplitl [HO]; · iexact HO
    iexact HW
  iintro ⟨HB, HO, HW⟩
  iapply Hk
  isplitl [HX]; · iexact HX
  isplitl [HB]; · iexact HB
  isplitl [HO]; · iexact HO
  isplitl [HS]; · iexact HS
  isplitl [HW]; · iexact HW
  iexact HE

/-- One piece of the last tile: it is computed and sent out. -/
theorem pieceL_spec (k : ℕ) (hk : k < 4) (f : S4x2048x768.Idx → Elt F .f32) (g : S32768x768.Idx → Elt F .f32)
    (p : PUnit → Prog (TpuEff nD τ sig (Elt F) Λ₀ .tc) PUnit) (Q : PUnit → sProp 𝕄) :
    iprop(xbPt c (slotS 3 (512 * k) 512) (shift X 15) ∗ obPt c (slotS 3 (512 * k) 512) f ∗ outPt c (rowsS (30720 + 512 * k) 512) g
        ∗ semL c k hk ∗ wbPt c mw mb fw fb)
      ⊢ iprop((iprop(xbPt c (slotS 3 (512 * k) 512) (shift X 15) ∗ PL c (GG c X mw mb fw fb) k hk ∗ wbPt c mw mb fw fb) -∗ wpb c (p ⟨⟩) Q)
          -∗ wpb c (compS mw mb 3 k (by decide) hk) fun _ => wpb c (startOL k hk) fun x => wpb c (p x) Q) := by
  iintro ⟨HB, HO, HR, HS, HW⟩ Hk
  iapply (compS_spec c X mw mb fw fb 15 k _ hk (Or.inr rfl) f _) $$ [HB HO HW]
  · isplitl [HB]; · iexact HB
    isplitl [HO]; · iexact HO
    iexact HW
  iintro ⟨HB, HO, HW⟩
  iapply (startOL_spec c (GG c X mw mb fw fb) k hk g _) $$ [HO HR HS]
  · isplitl [HO]; · iexact HO
    isplitl [HR]; · iexact HR
    iexact HS
  iintro HP
  iapply Hk
  isplitl [HB]; · iexact HB
  isplitl [HP]; · iexact HP
  iexact HW

end Specs

end Cert.KernelIdeal.Hand

end
-- ==== Proof.Whole.lean ====
/-
  The whole body, tile after tile.

  Started on the token array, the result at anything, both rings at anything, every semaphore at zero, the weights and the
  bias, the body ends with the result at `outRow` of them and everything else as it was (`body_spec`).
-/
module

public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Specs
variable (c : Dev nD) (X : S32768x768.Idx → Elt F .f32)
  (mw : Memref sig .tc .vmem S768x768 .bf16) (mb : Memref sig .tc .vmem S1x768 .f32)
  (fw : Buf (Elt F) (mw.view.loc (c : Thread nD τ))) (fb : Buf (Elt F) (mb.view.loc (c : Thread nD τ)))

theorem mem16 {i : ℕ} (h : i < 16) : i ∈ Finset.range 16 := Finset.mem_range.2 h

/-- A family with one member taken out and put back. -/
theorem take_out {S : Finset ℕ} {a : ℕ} (h : a ∈ S) (Φ : ℕ → sProp 𝕄) : bigSep S Φ ⊢ iprop(Φ a ∗ bigSep (S.erase a) Φ) :=
  of_eq (bigSep_erase h)
theorem put_back {S : Finset ℕ} {a : ℕ} (h : a ∈ S) (Φ : ℕ → sProp 𝕄) : iprop(Φ a ∗ bigSep (S.erase a) Φ) ⊢ bigSep S Φ :=
  of_eq (bigSep_erase h).symm

/-- The first tile. -/
theorem first_spec (f : S4x2048x768.Idx → Elt F .f32) (Q : PUnit → sProp 𝕄) :
    iprop(P0 c X 0 (by decide) ∗ P0 c X 1 (by decide) ∗ P0 c X 2 (by decide) ∗ P0 c X 3 (by decide)
        ∗ obPt c (slotS 0 0 2048) f ∗ semVal ((c : Thread nD τ), .dma (cell cc0_scratch3 0 (by decide))) 0
        ∗ semVal ((c : Thread nD τ), .dma (cell cc0_scratch2 0 (by decide))) 0
        ∗ bigSep ((Finset.range 16).erase 0) (XS c X 1 4) ∗ bigSep (Finset.range 16) (OS c (GG c X mw mb fw fb) 0 0) ∗ wbPt c mw mb fw fb ∗ owesE c)
      ⊢ iprop((iprop(bigSep (Finset.range 16) (XS c X 1 5) ∗ bigSep (Finset.range 16) (OS c (GG c X mw mb fw fb) 0 1)
            ∗ sem0 c 0 (by decide) ∗ sem0 c 1 (by decide) ∗ sem0 c 2 (by decide) ∗ sem0 c 3 (by decide) ∗ wbPt c mw mb fw fb ∗ owesE c) -∗ Q ⟨⟩)
          -∗ wpb c (first mw mb) Q) := by
  unfold first
  simp only [wpb_seq]
  iintro ⟨HP0, HP1, HP2, HP3, HO, HSo, HSx, HX, HR, HW, HE⟩ Hk
  ihave HO := (of_eq (ob_split4 c 0 f)) $$ HO
  icases HO with ⟨HO0, HO1, HO2, HO3⟩
  iapply (piece0_spec c X mw mb fw fb 0 _ f _ _) $$ [HP0 HO0 HW HE]
  · isplitl [HP0]; · iexact HP0
    isplitl [HO0]; · iexact HO0
    isplitl [HW]; · iexact HW
    iexact HE
  iintro ⟨HX0, HB0, HO0, HS0, HW, HE⟩
  iapply (piece0_spec c X mw mb fw fb 1 _ f _ _) $$ [HP1 HO1 HW HE]
  · isplitl [HP1]; · iexact HP1
    isplitl [HO1]; · iexact HO1
    isplitl [HW]; · iexact HW
    iexact HE
  iintro ⟨HX1, HB1, HO1, HS1, HW, HE⟩
  iapply (piece0_spec c X mw mb fw fb 2 _ f _ _) $$ [HP2 HO2 HW HE]
  · isplitl [HP2]; · iexact HP2
    isplitl [HO2]; · iexact HO2
    isplitl [HW]; · iexact HW
    iexact HE
  iintro ⟨HX2, HB2, HO2, HS2, HW, HE⟩
  iapply (piece0_spec c X mw mb fw fb 3 _ f _ _) $$ [HP3 HO3 HW HE]
  · isplitl [HP3]; · iexact HP3
    isplitl [HO3]; · iexact HO3
    isplitl [HW]; · iexact HW
    iexact HE
  iintro ⟨HX3, HB3, HO3, HS3, HW, HE⟩
  ihave HO := (of_eq (ob_split4 c 0 (shift (GG c X mw mb fw fb) 0)).symm) $$ [HO0 HO1 HO2 HO3]
  · isplitl [HO0]; · iexact HO0
    isplitl [HO1]; · iexact HO1
    isplitl [HO2]; · iexact HO2
    iexact HO3
  ihave HB := (of_eq (xb_split4 c 0 (shift X 0)).symm) $$ [HB0 HB1 HB2 HB3]
  · isplitl [HB0]; · iexact HB0
    isplitl [HB1]; · iexact HB1
    isplitl [HB2]; · iexact HB2
    iexact HB3
  ihave HX0 := (of_eq (x_split4 c 0 X).symm) $$ [HX0 HX1 HX2 HX3]
  · isplitl [HX0]; · iexact HX0
    isplitl [HX1]; · iexact HX1
    isplitl [HX2]; · iexact HX2
    iexact HX3
  ihave HX := (put_back (mem16 (i := 0) (by decide)) (XS c X 1 4)) $$ [HX0 HX]
  · isplitl [HX0]
    · rw [show XS c X 1 4 0 = xPt c (rowsS (2048 * 0) 2048) X from if_neg (by omega)]; iexact HX0
    iexact HX
  iapply (startO_spec c (GG c X mw mb fw fb) (Finset.range 16) 0 0 (mem16 (by decide)) _ (by decide) _) $$ [HR HO HSo]
  · isplitl [HR]; · iexact HR
    isplitl [HO]; · iexact HO
    iexact HSo
  iintro HR
  iapply (startX_spec c X (Finset.range 16) 1 4 (mem16 (by decide)) _ (by decide) _) $$ [HX HB HSx]
  · isplitl [HX]; · iexact HX
    isplitl [HB]; · iexists _; iexact HB
    iexact HSx
  iintro HX
  iapply Hk
  isplitl [HX]; · iexact HX
  isplitl [HR]; · iexact HR
  isplitl [HS0]; · iexact HS0
  isplitl [HS1]; · iexact HS1
  isplitl [HS2]; · iexact HS2
  isplitl [HS3]; · iexact HS3
  isplitl [HW]; · iexact HW
  iexact HE

/-- A tile before any result's slot is used again. -/
theorem early_spec (i : ℕ) (hi : i < 4) (h1 : 1 ≤ i) (Q : PUnit → sProp 𝕄) :
    iprop(bigSep (Finset.range 16) (XS c X i (i + 4)) ∗ bigSep (Finset.range 16) (OS c (GG c X mw mb fw fb) 0 i) ∗ oFreeS c (i % 4) (mod4 i) ∗ wbPt c mw mb fw fb ∗ owesE c)
      ⊢ iprop((iprop(bigSep (Finset.range 16) (XS c X (i + 1) (i + 4 + 1)) ∗ bigSep (Finset.range 16) (OS c (GG c X mw mb fw fb) 0 (i + 1)) ∗ wbPt c mw mb fw fb ∗ owesE c) -∗ Q ⟨⟩)
          -∗ wpb c (early mw mb i hi) Q) := by
  unfold early
  simp only [wpb_seq]
  iintro ⟨HX, HR, ⟨HO, HSo⟩, HW, HE⟩ Hk
  iapply (waitX_spec c X (Finset.range 16) (i) (i + 4) (mem16 (by omega)) _ (by omega) _) $$ [HX HE]
  · isplitl [HX]; · iexact HX
    iexact HE
  iintro ⟨HX, HB, HSx, HE⟩
  iapply (compL_spec c X mw mb fw fb (i) _ (by omega) (by omega) _) $$ [HB HO HW]
  · isplitl [HB]; · iexact HB
    isplitl [HO]; · iexact HO
    iexact HW
  iintro ⟨HB, HO, HW⟩
  iapply (startO_spec c (GG c X mw mb fw fb) (Finset.range 16) 0 (i) (mem16 (by omega)) _ (by omega) _) $$ [HR HO HSo]
  · isplitl [HR]; · iexact HR
    isplitl [HO]; · iexact HO
    iexact HSo
  iintro HR
  iapply (startX_spec c X (Finset.range 16) (i + 1) (i + 4) (mem16 (by omega)) _ (by omega) _) $$ [HX HB HSx]
  · isplitl [HX]; · iexact HX
    rw [xFreeS_of c (mod4 (i + 4)) (mod4 (i)) (Nat.add_mod_right (i) 4)]
    isplitl [HB]; · iexists _; iexact HB
    iexact HSx
  iintro HX
  iapply Hk
  isplitl [HX]; · iexact HX
  isplitl [HR]; · iexact HR
  isplitl [HW]; · iexact HW
  iexact HE

theorem oFreeS_of {a b : ℕ} (ha : a < 4) (hb : b < 4) (h : a = b) : (oFreeS c a ha : sProp 𝕄) = oFreeS c b hb := by
  subst h; rfl

/-- A tile in the middle. -/
theorem middle_spec (i : ℕ) (hi : i + 4 < 12) (Q : PUnit → sProp 𝕄) :
    iprop(bigSep (Finset.range 16) (XS c X (i + 4) (i + 4 + 4)) ∗ bigSep (Finset.range 16) (OS c (GG c X mw mb fw fb) i (i + 4)) ∗ wbPt c mw mb fw fb ∗ owesE c)
      ⊢ iprop((iprop(bigSep (Finset.range 16) (XS c X (i + 4 + 1) (i + 4 + 4 + 1)) ∗ bigSep (Finset.range 16) (OS c (GG c X mw mb fw fb) (i + 1) (i + 4 + 1)) ∗ wbPt c mw mb fw fb ∗ owesE c) -∗ Q ⟨⟩)
          -∗ wpb c (middle mw mb i hi) Q) := by
  unfold middle
  simp only [wpb_seq]
  iintro ⟨HX, HR, HW, HE⟩ Hk
  iapply (waitX_spec c X (Finset.range 16) (i + 4) (i + 4 + 4) (mem16 (by omega)) _ (by omega) _) $$ [HX HE]
  · isplitl [HX]; · iexact HX
    iexact HE
  iintro ⟨HX, HB, HSx, HE⟩
  iapply (waitO_spec c (GG c X mw mb fw fb) (Finset.range 16) i (i + 4) (mem16 (by omega)) _ (by omega) _) $$ [HR HE]
  · isplitl [HR]; · iexact HR
    iexact HE
  iintro ⟨HR, HF, HE⟩
  ihave HF := (of_eq (oFreeS_of c (mod4 i) (mod4 (i + 4)) (Nat.add_mod_right i 4).symm)) $$ HF
  icases HF with ⟨HO, HSo⟩
  iapply (compL_spec c X mw mb fw fb (i + 4) _ (by omega) (by omega) _) $$ [HB HO HW]
  · isplitl [HB]; · iexact HB
    isplitl [HO]; · iexact HO
    iexact HW
  iintro ⟨HB, HO, HW⟩
  iapply (startO_spec c (GG c X mw mb fw fb) (Finset.range 16) (i + 1) (i + 4) (mem16 (by omega)) _ (by omega) _) $$ [HR HO HSo]
  · isplitl [HR]; · iexact HR
    isplitl [HO]; · iexact HO
    iexact HSo
  iintro HR
  iapply (startX_spec c X (Finset.range 16) (i + 4 + 1) (i + 4 + 4) (mem16 (by omega)) _ (by omega) _) $$ [HX HB HSx]
  · isplitl [HX]; · iexact HX
    rw [xFreeS_of c (mod4 (i + 4 + 4)) (mod4 (i + 4)) (Nat.add_mod_right (i + 4) 4)]
    isplitl [HB]; · iexists _; iexact HB
    iexact HSx
  iintro HX
  iapply Hk
  isplitl [HX]; · iexact HX
  isplitl [HR]; · iexact HR
  isplitl [HW]; · iexact HW
  iexact HE

/-- A tile after the last transfer in has started. -/
theorem late_spec (i : ℕ) (hi : i + 4 < 15) (h8 : 8 ≤ i) (Q : PUnit → sProp 𝕄) :
    iprop(bigSep (Finset.range 16) (XS c X (i + 4) 16) ∗ bigSep (Finset.range 16) (OS c (GG c X mw mb fw fb) i (i + 4)) ∗ wbPt c mw mb fw fb ∗ owesE c)
      ⊢ iprop((iprop(bigSep (Finset.range 16) (XS c X (i + 4 + 1) 16) ∗ bigSep (Finset.range 16) (OS c (GG c X mw mb fw fb) (i + 1) (i + 4 + 1))
            ∗ xFreeS c ((i + 4) % 4) (mod4 (i + 4)) ∗ wbPt c mw mb fw fb ∗ owesE c) -∗ Q ⟨⟩)
          -∗ wpb c (late mw mb i hi) Q) := by
  unfold late
  simp only [wpb_seq]
  iintro ⟨HX, HR, HW, HE⟩ Hk
  iapply (waitX_spec c X (Finset.range 16) (i + 4) 16 (mem16 (by omega)) _ (by omega) _) $$ [HX HE]
  · isplitl [HX]; · iexact HX
    iexact HE
  iintro ⟨HX, HB, HSx, HE⟩
  iapply (waitO_spec c (GG c X mw mb fw fb) (Finset.range 16) i (i + 4) (mem16 (by omega)) _ (by omega) _) $$ [HR HE]
  · isplitl [HR]; · iexact HR
    iexact HE
  iintro ⟨HR, HF, HE⟩
  ihave HF := (of_eq (oFreeS_of c (mod4 i) (mod4 (i + 4)) (Nat.add_mod_right i 4).symm)) $$ HF
  icases HF with ⟨HO, HSo⟩
  iapply (compL_spec c X mw mb fw fb (i + 4) _ (by omega) (by omega) _) $$ [HB HO HW]
  · isplitl [HB]; · iexact HB
    isplitl [HO]; · iexact HO
    iexact HW
  iintro ⟨HB, HO, HW⟩
  iapply (startO_spec c (GG c X mw mb fw fb) (Finset.range 16) (i + 1) (i + 4) (mem16 (by omega)) _ (by omega) _) $$ [HR HO HSo]
  · isplitl [HR]; · iexact HR
    isplitl [HO]; · iexact HO
    iexact HSo
  iintro HR
  iapply Hk
  isplitl [HX]; · iexact HX
  isplitl [HR]; · iexact HR
  isplitl [HB HSx]
  · isplitl [HB]; · iexists _; iexact HB
    iexact HSx
  isplitl [HW]; · iexact HW
  iexact HE

/-- The last tile. -/
theorem last_spec (Q : PUnit → sProp 𝕄) :
    iprop(bigSep (Finset.range 16) (XS c X 15 16) ∗ bigSep (Finset.range 16) (OS c (GG c X mw mb fw fb) 11 15)
        ∗ semL c 0 (by decide) ∗ semL c 1 (by decide) ∗ semL c 2 (by decide) ∗ semL c 3 (by decide) ∗ wbPt c mw mb fw fb ∗ owesE c)
      ⊢ iprop((iprop(bigSep (Finset.range 16) (XS c X 16 16) ∗ bigSep (Finset.range 16) (OS c (GG c X mw mb fw fb) 16 16)
            ∗ xFreeS c 3 (by decide) ∗ oFreeS c 0 (by decide) ∗ oFreeS c 1 (by decide) ∗ oFreeS c 2 (by decide) ∗ oFreeS c 3 (by decide)
            ∗ semL c 0 (by decide) ∗ semL c 1 (by decide) ∗ semL c 2 (by decide) ∗ semL c 3 (by decide) ∗ wbPt c mw mb fw fb ∗ owesE c) -∗ Q ⟨⟩)
          -∗ wpb c (last mw mb) Q) := by
  unfold last
  simp only [wpb_seq]
  iintro ⟨HX, HR, HL0, HL1, HL2, HL3, HW, HE⟩ Hk
  iapply (waitX_spec c X (Finset.range 16) 15 16 (mem16 (by decide)) _ (by decide) _) $$ [HX HE]
  · isplitl [HX]; · iexact HX
    iexact HE
  iintro ⟨HX, HB, HSx, HE⟩
  iapply (waitO_spec c (GG c X mw mb fw fb) (Finset.range 16) 11 15 (mem16 (by decide)) _ (by decide) _) $$ [HR HE]
  · isplitl [HR]; · iexact HR
    iexact HE
  iintro ⟨HR, ⟨⟨%f, HO⟩, HSo⟩, HE⟩
  ihave HR := (take_out (mem16 (i := 15) (by decide)) (OS c (GG c X mw mb fw fb) 12 15)) $$ HR
  rw [show OS c (GG c X mw mb fw fb) 12 15 15 = iprop(∃ f : S32768x768.Idx → Elt F .f32, outPt c (rowsS 30720 2048) f) from (if_neg (by omega)).trans (if_neg (by omega))]
  icases HR with ⟨⟨%g, HT⟩, HR⟩
  ihave HT := (of_eq (out_split4 c 30720 g)) $$ HT
  icases HT with ⟨HT0, HT1, HT2, HT3⟩
  ihave HB := (of_eq (xb_split4 c 3 (shift X 15))) $$ HB
  icases HB with ⟨HB0, HB1, HB2, HB3⟩
  ihave HO := (of_eq (ob_split4 c 3 f)) $$ HO
  icases HO with ⟨HO0, HO1, HO2, HO3⟩
  iapply (pieceL_spec c X mw mb fw fb 0 _ f g _ _) $$ [HB0 HO0 HT0 HL0 HW]
  · isplitl [HB0]; · iexact HB0
    isplitl [HO0]; · iexact HO0
    isplitl [HT0]; · iexact HT0
    isplitl [HL0]; · iexact HL0
    iexact HW
  iintro ⟨HB0, HP0, HW⟩
  iapply (pieceL_spec c X mw mb fw fb 1 _ f g _ _) $$ [HB1 HO1 HT1 HL1 HW]
  · isplitl [HB1]; · iexact HB1
    isplitl [HO1]; · iexact HO1
    isplitl [HT1]; · iexact HT1
    isplitl [HL1]; · iexact HL1
    iexact HW
  iintro ⟨HB1, HP1, HW⟩
  iapply (pieceL_spec c X mw mb fw fb 2 _ f g _ _) $$ [HB2 HO2 HT2 HL2 HW]
  · isplitl [HB2]; · iexact HB2
    isplitl [HO2]; · iexact HO2
    isplitl [HT2]; · iexact HT2
    isplitl [HL2]; · iexact HL2
    iexact HW
  iintro ⟨HB2, HP2, HW⟩
  iapply (pieceL_spec c X mw mb fw fb 3 _ f g _ _) $$ [HB3 HO3 HT3 HL3 HW]
  · isplitl [HB3]; · iexact HB3
    isplitl [HO3]; · iexact HO3
    isplitl [HT3]; · iexact HT3
    isplitl [HL3]; · iexact HL3
    iexact HW
  iintro ⟨HB3, HP3, HW⟩
  iapply (waitO_spec c (GG c X mw mb fw fb) ((Finset.range 16).erase 15) 12 15 (by decide) _ (by decide) _) $$ [HR HE]
  · isplitl [HR]; · iexact HR
    iexact HE
  iintro ⟨HR, HF0, HE⟩
  iapply (waitO_spec c (GG c X mw mb fw fb) ((Finset.range 16).erase 15) 13 15 (by decide) _ (by decide) _) $$ [HR HE]
  · isplitl [HR]; · iexact HR
    iexact HE
  iintro ⟨HR, HF1, HE⟩
  iapply (waitO_spec c (GG c X mw mb fw fb) ((Finset.range 16).erase 15) 14 15 (by decide) _ (by decide) _) $$ [HR HE]
  · isplitl [HR]; · iexact HR
    iexact HE
  iintro ⟨HR, HF2, HE⟩
  iapply (waitOL_spec c (GG c X mw mb fw fb) 0 _ _) $$ [HP0 HE]
  · isplitl [HP0]; · iexact HP0
    iexact HE
  iintro ⟨⟨HT0, HO0⟩, HL0, HE⟩
  iapply (waitOL_spec c (GG c X mw mb fw fb) 1 _ _) $$ [HP1 HE]
  · isplitl [HP1]; · iexact HP1
    iexact HE
  iintro ⟨⟨HT1, HO1⟩, HL1, HE⟩
  iapply (waitOL_spec c (GG c X mw mb fw fb) 2 _ _) $$ [HP2 HE]
  · isplitl [HP2]; · iexact HP2
    iexact HE
  iintro ⟨⟨HT2, HO2⟩, HL2, HE⟩
  iapply (waitOL_spec c (GG c X mw mb fw fb) 3 _ _) $$ [HP3 HE]
  · isplitl [HP3]; · iexact HP3
    iexact HE
  iintro ⟨⟨HT3, HO3⟩, HL3, HE⟩
  ihave HT := (of_eq (out_split4 c 30720 (GG c X mw mb fw fb)).symm) $$ [HT0 HT1 HT2 HT3]
  · isplitl [HT0]; · iexact HT0
    isplitl [HT1]; · iexact HT1
    isplitl [HT2]; · iexact HT2
    iexact HT3
  ihave HB := (of_eq (xb_split4 c 3 (shift X 15)).symm) $$ [HB0 HB1 HB2 HB3]
  · isplitl [HB0]; · iexact HB0
    isplitl [HB1]; · iexact HB1
    isplitl [HB2]; · iexact HB2
    iexact HB3
  ihave HO := (of_eq (ob_split4 c 3 (shift (GG c X mw mb fw fb) 15)).symm) $$ [HO0 HO1 HO2 HO3]
  · isplitl [HO0]; · iexact HO0
    isplitl [HO1]; · iexact HO1
    isplitl [HO2]; · iexact HO2
    iexact HO3
  ihave HR := (of_eq (bigSep_congr (s := (Finset.range 16).erase 15) (Φ := OS c (GG c X mw mb fw fb) 15 15) (Ψ := OS c (GG c X mw mb fw fb) 16 16) (fun i hi => by
    have h := Finset.mem_erase.1 hi
    have h' := Finset.mem_range.1 h.2
    unfold OS
    rw [if_pos (by omega), if_pos (by omega)]))) $$ HR
  ihave HR := (put_back (mem16 (i := 15) (by decide)) (OS c (GG c X mw mb fw fb) 16 16)) $$ [HT HR]
  · isplitl [HT]
    · rw [show OS c (GG c X mw mb fw fb) 16 16 15 = outPt c (rowsS (2048 * 15) 2048) (GG c X mw mb fw fb) from if_pos (by omega)]; iexact HT
    iexact HR
  iapply Hk
  isplitl [HX]; · iexact HX
  isplitl [HR]; · iexact HR
  isplitl [HB HSx]
  · isplitl [HB]; · iexists _; iexact HB
    iexact HSx
  isplitl [HF0]; · iexact HF0
  isplitl [HF1]; · iexact HF1
  isplitl [HF2]; · iexact HF2
  isplitl [HO HSo]
  · isplitl [HO]; · iexists _; iexact HO
    iexact HSo
  isplitl [HL0]; · iexact HL0
  isplitl [HL1]; · iexact HL1
  isplitl [HL2]; · iexact HL2
  isplitl [HL3]; · iexact HL3
  isplitl [HW]; · iexact HW
  iexact HE

/-- All sixteen semaphores of the rings at zero. -/
abbrev semsE : sProp 𝕄 :=
  iprop(semVal ((c : Thread nD τ), .dma (cell cc0_scratch2 0 (by decide))) 0 ∗ semVal ((c : Thread nD τ), .dma (cell cc0_scratch2 1 (by decide))) 0 ∗ semVal ((c : Thread nD τ), .dma (cell cc0_scratch2 2 (by decide))) 0 ∗ semVal ((c : Thread nD τ), .dma (cell cc0_scratch2 3 (by decide))) 0
        ∗ semVal ((c : Thread nD τ), .dma (cell cc0_scratch3 0 (by decide))) 0 ∗ semVal ((c : Thread nD τ), .dma (cell cc0_scratch3 1 (by decide))) 0 ∗ semVal ((c : Thread nD τ), .dma (cell cc0_scratch3 2 (by decide))) 0 ∗ semVal ((c : Thread nD τ), .dma (cell cc0_scratch3 3 (by decide))) 0
        ∗ semVal ((c : Thread nD τ), .dma (cell cc0_scratch4 0 (by decide))) 0 ∗ semVal ((c : Thread nD τ), .dma (cell cc0_scratch4 1 (by decide))) 0 ∗ semVal ((c : Thread nD τ), .dma (cell cc0_scratch4 2 (by decide))) 0 ∗ semVal ((c : Thread nD τ), .dma (cell cc0_scratch4 3 (by decide))) 0
        ∗ semVal ((c : Thread nD τ), .dma (cell cc0_scratch5 0 (by decide))) 0 ∗ semVal ((c : Thread nD τ), .dma (cell cc0_scratch5 1 (by decide))) 0 ∗ semVal ((c : Thread nD τ), .dma (cell cc0_scratch5 2 (by decide))) 0 ∗ semVal ((c : Thread nD τ), .dma (cell cc0_scratch5 3 (by decide))) 0)

/-- The whole body. -/
theorem body_spec (Q : PUnit → sProp 𝕄) :
    iprop(xPt c Finset.univ X ∗ (∃ f : S32768x768.Idx → Elt F .f32, outPt c Finset.univ f)
        ∗ (∃ f : S4x2048x768.Idx → Elt F .f32, xbPt c Finset.univ f) ∗ (∃ f : S4x2048x768.Idx → Elt F .f32, obPt c Finset.univ f)
        ∗ semsE c ∗ wbPt c mw mb fw fb ∗ owesE c)
      ⊢ iprop((iprop(xPt c Finset.univ X ∗ outPt c Finset.univ (GG c X mw mb fw fb)
            ∗ (∃ f : S4x2048x768.Idx → Elt F .f32, xbPt c Finset.univ f) ∗ (∃ f : S4x2048x768.Idx → Elt F .f32, obPt c Finset.univ f)
            ∗ semsE c ∗ wbPt c mw mb fw fb ∗ owesE c) -∗ Q ⟨⟩)
          -∗ wpb c (body mw mb) Q) := by
  unfold body
  simp only [wpb_seq]
  iintro ⟨HX, ⟨%g, HR⟩, ⟨%fx, HB⟩, ⟨%fo, HO⟩, ⟨HSx0, HSx1, HSx2, HSx3, HSo0, HSo1, HSo2, HSo3, HI0, HI1, HI2, HI3, HL0, HL1, HL2, HL3⟩, HW, HE⟩ Hk
  ihave HX := (of_eq ((x_tiles c X).trans (bigSep_congr (Ψ := XS c X 1 1) fun i _ => (if_neg (by omega)).symm))) $$ HX
  ihave HX := (take_out (mem16 (i := 0) (by decide)) (XS c X 1 1)) $$ HX
  rw [show XS c X 1 1 0 = xPt c (rowsS 0 2048) X from if_neg (by omega)]
  icases HX with ⟨HX0, HX⟩
  ihave HR := ((of_eq (out_tiles c g)).trans (bigSep_mono (Ψ := OS c (GG c X mw mb fw fb) 0 0) fun i _ => by
    rw [show OS c (GG c X mw mb fw fb) 0 0 i = iprop(∃ f : S32768x768.Idx → Elt F .f32, outPt c (rowsS (2048 * i) 2048) f) from (if_neg (by omega)).trans (if_neg (by omega))]
    show outPt c (rowsS (2048 * i) 2048) g ⊢ iprop(∃ f : S32768x768.Idx → Elt F .f32, outPt c (rowsS (2048 * i) 2048) f)
    iintro H; iexists g; iexact H)) $$ HR
  ihave HB := (of_eq (xb_slots c fx)) $$ HB
  icases HB with ⟨HB0, HB1, HB2, HB3⟩
  ihave HO := (of_eq (ob_slots c fo)) $$ HO
  icases HO with ⟨HO0, HO1, HO2, HO3⟩
  iapply (prologue_spec c X ((Finset.range 16).erase 0) (by decide) (by decide) (by decide) fx _) $$ [HX0 HB0 HI0 HI1 HI2 HI3 HX HB1 HSx1 HB2 HSx2 HB3 HSx3]
  · isplitl [HX0]; · iexact HX0
    isplitl [HB0]; · iexact HB0
    isplitl [HI0]; · iexact HI0
    isplitl [HI1]; · iexact HI1
    isplitl [HI2]; · iexact HI2
    isplitl [HI3]; · iexact HI3
    isplitl [HX]; · iexact HX
    isplitl [HB1 HSx1]
    · isplitl [HB1]; · iexists _; iexact HB1
      iexact HSx1
    isplitl [HB2 HSx2]
    · isplitl [HB2]; · iexists _; iexact HB2
      iexact HSx2
    isplitl [HB3]; · iexists _; iexact HB3
    iexact HSx3
  iintro ⟨HI0, HI1, HI2, HI3, HX⟩
  iapply (first_spec c X mw mb fw fb fo _) $$ [HI0 HI1 HI2 HI3 HO0 HSo0 HSx0 HX HR HW HE]
  · isplitl [HI0]; · iexact HI0
    isplitl [HI1]; · iexact HI1
    isplitl [HI2]; · iexact HI2
    isplitl [HI3]; · iexact HI3
    isplitl [HO0]; · iexact HO0
    isplitl [HSo0]; · iexact HSo0
    isplitl [HSx0]; · iexact HSx0
    isplitl [HX]; · iexact HX
    isplitl [HR]; · iexact HR
    isplitl [HW]; · iexact HW
    iexact HE
  iintro ⟨HX, HR, HI0, HI1, HI2, HI3, HW, HE⟩
  iapply (early_spec c X mw mb fw fb 1 _ (by decide) _) $$ [HX HR HO1 HSo1 HW HE]
  · isplitl [HX]; · iexact HX
    isplitl [HR]; · iexact HR
    isplitl [HO1 HSo1]
    · isplitl [HO1]; · iexists _; iexact HO1
      iexact HSo1
    isplitl [HW]; · iexact HW
    iexact HE
  iintro ⟨HX, HR, HW, HE⟩
  iapply (early_spec c X mw mb fw fb 2 _ (by decide) _) $$ [HX HR HO2 HSo2 HW HE]
  · isplitl [HX]; · iexact HX
    isplitl [HR]; · iexact HR
    isplitl [HO2 HSo2]
    · isplitl [HO2]; · iexists _; iexact HO2
      iexact HSo2
    isplitl [HW]; · iexact HW
    iexact HE
  iintro ⟨HX, HR, HW, HE⟩
  iapply (early_spec c X mw mb fw fb 3 _ (by decide) _) $$ [HX HR HO3 HSo3 HW HE]
  · isplitl [HX]; · iexact HX
    isplitl [HR]; · iexact HR
    isplitl [HO3 HSo3]
    · isplitl [HO3]; · iexists _; iexact HO3
      iexact HSo3
    isplitl [HW]; · iexact HW
    iexact HE
  iintro ⟨HX, HR, HW, HE⟩
  iapply (middle_spec c X mw mb fw fb 0 _ _) $$ [HX HR HW HE]
  · isplitl [HX]; · iexact HX
    isplitl [HR]; · iexact HR
    isplitl [HW]; · iexact HW
    iexact HE
  iintro ⟨HX, HR, HW, HE⟩
  iapply (middle_spec c X mw mb fw fb 1 _ _) $$ [HX HR HW HE]
  · isplitl [HX]; · iexact HX
    isplitl [HR]; · iexact HR
    isplitl [HW]; · iexact HW
    iexact HE
  iintro ⟨HX, HR, HW, HE⟩
  iapply (middle_spec c X mw mb fw fb 2 _ _) $$ [HX HR HW HE]
  · isplitl [HX]; · iexact HX
    isplitl [HR]; · iexact HR
    isplitl [HW]; · iexact HW
    iexact HE
  iintro ⟨HX, HR, HW, HE⟩
  iapply (middle_spec c X mw mb fw fb 3 _ _) $$ [HX HR HW HE]
  · isplitl [HX]; · iexact HX
    isplitl [HR]; · iexact HR
    isplitl [HW]; · iexact HW
    iexact HE
  iintro ⟨HX, HR, HW, HE⟩
  iapply (middle_spec c X mw mb fw fb 4 _ _) $$ [HX HR HW HE]
  · isplitl [HX]; · iexact HX
    isplitl [HR]; · iexact HR
    isplitl [HW]; · iexact HW
    iexact HE
  iintro ⟨HX, HR, HW, HE⟩
  iapply (middle_spec c X mw mb fw fb 5 _ _) $$ [HX HR HW HE]
  · isplitl [HX]; · iexact HX
    isplitl [HR]; · iexact HR
    isplitl [HW]; · iexact HW
    iexact HE
  iintro ⟨HX, HR, HW, HE⟩
  iapply (middle_spec c X mw mb fw fb 6 _ _) $$ [HX HR HW HE]
  · isplitl [HX]; · iexact HX
    isplitl [HR]; · iexact HR
    isplitl [HW]; · iexact HW
    iexact HE
  iintro ⟨HX, HR, HW, HE⟩
  iapply (middle_spec c X mw mb fw fb 7 _ _) $$ [HX HR HW HE]
  · isplitl [HX]; · iexact HX
    isplitl [HR]; · iexact HR
    isplitl [HW]; · iexact HW
    iexact HE
  iintro ⟨HX, HR, HW, HE⟩
  iapply (late_spec c X mw mb fw fb 8 _ (by decide) _) $$ [HX HR HW HE]
  · isplitl [HX]; · iexact HX
    isplitl [HR]; · iexact HR
    isplitl [HW]; · iexact HW
    iexact HE
  iintro ⟨HX, HR, ⟨HB0, HSx0⟩, HW, HE⟩
  iapply (late_spec c X mw mb fw fb 9 _ (by decide) _) $$ [HX HR HW HE]
  · isplitl [HX]; · iexact HX
    isplitl [HR]; · iexact HR
    isplitl [HW]; · iexact HW
    iexact HE
  iintro ⟨HX, HR, ⟨HB1, HSx1⟩, HW, HE⟩
  iapply (late_spec c X mw mb fw fb 10 _ (by decide) _) $$ [HX HR HW HE]
  · isplitl [HX]; · iexact HX
    isplitl [HR]; · iexact HR
    isplitl [HW]; · iexact HW
    iexact HE
  iintro ⟨HX, HR, ⟨HB2, HSx2⟩, HW, HE⟩
  iapply (last_spec c X mw mb fw fb _) $$ [HX HR HL0 HL1 HL2 HL3 HW HE]
  · isplitl [HX]; · iexact HX
    isplitl [HR]; · iexact HR
    isplitl [HL0]; · iexact HL0
    isplitl [HL1]; · iexact HL1
    isplitl [HL2]; · iexact HL2
    isplitl [HL3]; · iexact HL3
    isplitl [HW]; · iexact HW
    iexact HE
  iintro ⟨HX, HR, ⟨HB3, HSx3⟩, ⟨HO0, HSo0⟩, ⟨HO1, HSo1⟩, ⟨HO2, HSo2⟩, ⟨HO3, HSo3⟩, HL0, HL1, HL2, HL3, HW, HE⟩
  ihave HX := (of_eq ((x_tiles c X).trans (bigSep_congr (Ψ := XS c X 16 16) fun i _ => (if_neg (by omega)).symm)).symm) $$ HX
  ihave HR := (of_eq ((out_tiles c (GG c X mw mb fw fb)).trans (bigSep_congr (Ψ := OS c (GG c X mw mb fw fb) 16 16) fun i hi => (if_pos (Finset.mem_range.1 hi)).symm)).symm) $$ HR
  ihave HB := (xb_join c) $$ [HB0 HB1 HB2 HB3]
  · isplitl [HB0]; · iexact HB0
    isplitl [HB1]; · iexact HB1
    isplitl [HB2]; · iexact HB2
    iexact HB3
  ihave HO := (ob_join c) $$ [HO0 HO1 HO2 HO3]
  · isplitl [HO0]; · iexact HO0
    isplitl [HO1]; · iexact HO1
    isplitl [HO2]; · iexact HO2
    iexact HO3
  iapply Hk
  isplitl [HX]; · iexact HX
  isplitl [HR]; · iexact HR
  isplitl [HB]; · iexact HB
  isplitl [HO]; · iexact HO
  isplitl [HSx0 HSx1 HSx2 HSx3 HSo0 HSo1 HSo2 HSo3 HI0 HI1 HI2 HI3 HL0 HL1 HL2 HL3]
  · isplitl [HSx0]; · iexact HSx0
    isplitl [HSx1]; · iexact HSx1
    isplitl [HSx2]; · iexact HSx2
    isplitl [HSx3]; · iexact HSx3
    isplitl [HSo0]; · iexact HSo0
    isplitl [HSo1]; · iexact HSo1
    isplitl [HSo2]; · iexact HSo2
    isplitl [HSo3]; · iexact HSo3
    isplitl [HI0]; · iexact HI0
    isplitl [HI1]; · iexact HI1
    isplitl [HI2]; · iexact HI2
    isplitl [HI3]; · iexact HI3
    isplitl [HL0]; · iexact HL0
    isplitl [HL1]; · iexact HL1
    isplitl [HL2]; · iexact HL2
    iexact HL3
  isplitl [HW]; · iexact HW
  iexact HE

end Specs

end Cert.KernelIdeal.Hand

end
-- ==== Proof.Run.lean ====
/-
  The kernel's run.

  The program ends with the result at `outRow` of the token array, the staged weights and the staged bias, its three
  arguments as they were and every semaphore at zero (`run_main`).
-/
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds beside the staged operands -/

abbrev osem0 : Fin 16 → SemLoc sig := fun j => (![SemLoc.dma 2, SemLoc.dma 3, SemLoc.dma 4, SemLoc.dma 5, SemLoc.dma 6, SemLoc.dma 7,
  SemLoc.dma 8, SemLoc.dma 9, SemLoc.dma 10, SemLoc.dma 11, SemLoc.dma 12, SemLoc.dma 13, SemLoc.dma 14, SemLoc.dma 15, SemLoc.dma 16,
  SemLoc.dma 17] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄) = semsE c := by
  rw [Pipeline.ownSems0_eq_of_list c osem0 [0, 1, 2, 3, 4, 5, 6, 7, 8, 9, 10, 11, 12, 13, 14, 15] (by decide) (by decide)]; rfl

/-- The token array is read by the body's own transfers, the result is written by them. -/
def H0 : Finset (Ref sig .tc) := {main_arg0}
def R0 : Finset (Ref sig .tc) := {main_v0}
theorem H0_sub : H0 ⊆ Pipeline.restRefs sig spec0 := by decide
theorem R0_sub : R0 ⊆ Pipeline.restRefs sig spec0 \ H0 := by decide

/-- The weights and the bias as the body finds them in its staged operands. -/
def wv (c : Dev nD) : Vec F S768x768 .bf16 := iblk m c 0 t0_0
def bv (c : Dev nD) : Vec F S1x768 .f32 := iblk m c 1 t0_0
/-- What the result holds at the end. -/
def result (c : Dev nD) : S32768x768.Idx → Elt F .f32 := outRow (V m c main_arg0) (wv m c) (bv m c)

/-- The buffers when the body returns: the result at `result`, all others as the body found them. -/
def G (c : Dev nD) (b : Ref sig .tc) : Buf (Elt F) ((c : Thread nD τ).loc b) :=
  Function.update (V m c) main_v0 (result m c) b

theorem G_main_v0 (c : Dev nD) : G m c main_v0 = result m c := Function.update_self ..

theorem PhiDRG_eq (c : Dev nD) (W : (c : Dev nD) → (b : Ref sig .tc) → Buf (Elt F) ((c : Thread nD τ).loc b)) :
    (Pipeline.ΦDRG (Val := Elt F) osem0 spec0 H0 R0 (V m) W c : sProp 𝕄)
      = iprop(((∃ f : S4x2048x768.Idx → Elt F .f32, xbPt c Finset.univ f) ∗ (∃ f : S4x2048x768.Idx → Elt F .f32, obPt c Finset.univ f))
          ∗ (∃ r, prngReg c r) ∗ semsE c ∗ xPt c Finset.univ (V m c main_arg0) ∗ outPt c Finset.univ (W c main_v0)) := by
  rw [Pipeline.ΦDRG_eq, scopedRest0_eq, ownSems00_eq]
  unfold Pipeline.routed
  rw [BI.bigSep_eq_bigSepL_of_eq (S := H0) [main_arg0] (by decide) (by decide),
    BI.bigSep_eq_bigSepL_of_eq (S := R0) [main_v0] (by decide) (by decide)]
  rfl

/-! ## The proof data and the body's obligation -/

/-- The proof data: the arrays as the region finds them, both staged operands left in place; before the point the
    result is as launched, after it the result is `result`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ k := Pipeline.ΦDRG osem0 spec0 H0 R0 (V m) (if k.val = 0 then V m else G m) c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]) t d).trans (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]) t d).trans (by unfold Dat.fetched Dat.blockOf iblk; rw [A_eq]; rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem Phi_start (c : Dev nD) (t : Fin cfg0.N) : (dats m 0 c).Φ t.castSucc = Pipeline.ΦDRG osem0 spec0 H0 R0 (V m) (V m) c := by
  have h : t.castSucc.val = 0 := by have := t.isLt; have := N_0; show t.val = 0; change t.val < grid0.N at *; omega
  dsimp only [dats]; rw [if_pos h]
theorem Phi_end (c : Dev nD) (t : Fin cfg0.N) : (dats m 0 c).Φ t.succ = Pipeline.ΦDRG osem0 spec0 H0 R0 (V m) (G m) c := by
  dsimp only [dats]; rw [if_neg (show t.succ.val ≠ 0 from Nat.succ_ne_zero _)]

theorem sound_body (c : Dev nD) (t : Fin cfg0.N) :
    bodyPre m c t ⊢ wp frame (wpE (defs₀ (F := F)) Variants.none c none) Set.univ (bodyAt0 t) (fun _ => bodyPost m c t) := by
  have ht : t = t0_0 := fin_N0 t
  unfold bodyPre bodyPost bodyAt0
  rw [Phi_start, Phi_end, after_0, after_1, PhiDRG_eq, PhiDRG_eq, G_main_v0]
  simp only [before_0, before_1]
  unfold Dat.owesAt Pipeline.owesWithin
  rw [show (dats m 0 c).owed t.castSucc = 0 from rfl, show (dats m 0 c).owed t.succ = 0 from rfl]
  unfold owns
  rw [show cc0__pipe_kernel (F := F) (Memref.whole main_arg0) (Memref.isWhole_whole _) (win0_0.stage (cfg0.slots t 0)) (hstage0_0 0)
      (win0_1.stage (cfg0.slots t 1)) (hstage0_1 0) (Memref.whole main_v0) (Memref.isWhole_whole _) (Memref.whole cc0_scratch0) (Memref.isWhole_whole _)
      (Memref.whole cc0_scratch1) (Memref.isWhole_whole _) cc0_scratch2 cc0_scratch3 cc0_scratch4 cc0_scratch5
    = body (win0_0.stage (cfg0.slots t 0)) (win0_1.stage (cfg0.slots t 1)) from body_eq _ _ _ _]
  iintro ⟨⟨⟨HB, HO⟩, Hg, HS, HX, HR⟩, ⟨%W, -, HW⟩, ⟨%d0, %f0, %h0, H0⟩, ⟨%d1, %f1, %h1, H1⟩⟩
  have hres : result m c = GG c (V m c main_arg0) (win0_0.stage (cfg0.slots t 0)) (win0_1.stage (cfg0.slots t 1)) f0 f1 := by
    unfold result wv bv GG; rw [← ht]; rw [h0, h1]
  rw [hres]
  iapply (body_spec c (V m c main_arg0) (win0_0.stage (cfg0.slots t 0)) (win0_1.stage (cfg0.slots t 1)) f0 f1 _) $$ [HB HO HS HX HR HW H0 H1]
  · isplitl [HX]; · iexact HX
    isplitl [HR]; · iexists _; iexact HR
    isplitl [HB]; · iexact HB
    isplitl [HO]; · iexact HO
    isplitl [HS]; · iexact HS
    isplitl [H0 H1]
    · isplitl [H0]; · iexact H0
      iexact H1
    iexists W; iexact HW
  iintro ⟨HX, HR, HB, HO, HS, ⟨H0, H1⟩, ⟨%W', HW⟩⟩
  isplitl [HB HO Hg HS HX HR]
  · isplitl [HB HO]
    · isplitl [HB]; · iexact HB
      iexact HO
    isplitl [Hg]; · iexact Hg
    isplitl [HS]; · iexact HS
    isplitl [HX]; · iexact HX
    iexact HR
  isplitl [HW]
  · iexists W'; isplitr; · ipureintro; exact fun _ _ => Or.inl trivial
    iexact HW
  isplitl [H0]
  · iexists f0; isplitr; · ipureintro; exact h0
    iexact H0
  iexists f1; isplitr; · ipureintro; exact h1
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_last (c : Dev nD) : (dats m 0 c).Φ (Fin.last cfg0.N) = Pipeline.ΦDRG osem0 spec0 H0 R0 (V m) (G m) c := by
  have h : (Fin.last cfg0.N).val ≠ 0 := by show grid0.N ≠ 0; rw [N_0]; decide
  dsimp only [dats]; rw [if_neg h]

set_option backward.isDefEq.respectTransparency.types false in
theorem run_region : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun c => of_eq (Phi_last m c))

theorem run_main : θ_run defs (onTc (τ := τ) (main (F := F))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.2 c main_v0 (by decide)).trans (G_main_v0 m c),
    ((h.1.1 c).2 main_arg0 (Finset.mem_sdiff.mpr ⟨Pipeline.mem_restRefs_of main_arg0 (by decide) (by decide), by decide⟩)).trans (V_main_arg0 m c),
    ((h.1.1 c).2 main_arg1 (Finset.mem_sdiff.mpr ⟨Pipeline.mem_restRefs_of main_arg1 (by decide) (by decide), by decide⟩)).trans (V_main_arg1 m c),
    ((h.1.1 c).2 main_arg2 (Finset.mem_sdiff.mpr ⟨Pipeline.mem_restRefs_of main_arg2 (by decide) (by decide), by decide⟩)).trans (V_main_arg2 m c)⟩, h.2⟩)
    (run_region m ρ)

end Cert.KernelIdeal.Hand

end
-- ==== Proof.SameText.lean ====
/-
  The printed kernel and its idealization are one text, so that the run proved of the one at any float values is the
  other's run at machine floats (`quiescent`).
-/
module

public import proofs.«01_k».proof.Defs
public import proofs.«01_k».proof.Proof.Run
public import proofs.«01_k».proof.Proof.Gen.Kernel
public import proofs.«01_k».proof.Proof.Gen.KernelIdeal

@[expose] public section

set_option maxRecDepth 16384

noncomputable section

namespace Cert.SameText

open Idealize.ShloMosaic Idealize.ShloMosaic.TcCoe Idealize.SL.Sem

theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
theorem defs_eq : Cert.Kernel.defs (F := Bits) = Cert.KernelIdeal.defs (F := Bits) := by
  unfold Cert.Kernel.defs Cert.KernelIdeal.defs
  exact congrArg (Pipeline.defs Cert.KernelIdeal.pcfgs) defs₀_eq
theorem main_eq : Cert.Kernel.main (F := Bits) = Cert.KernelIdeal.main (F := Bits) := rfl

/-- The printed kernel terminates without fault, its arguments unchanged and every semaphore at zero. -/
theorem quiescent : Cert.quiescent_Kernel := by
  intro m g _
  have h : θ_run (Cert.KernelIdeal.defs (F := Bits)) (onTc (τ := Cert.KernelIdeal.τ) (Cert.KernelIdeal.main (F := Bits))) ⟨m, fun _ => 0, g⟩ _ :=
    Cert.KernelIdeal.Hand.run_main (F := Bits) m g
  rw [defs_eq, main_eq]
  exact (θ_run _ _ _).mono (fun r h => ⟨fun c => (h.1 c).2, h.2⟩) h

end Cert.SameText

end
-- ==== Proof.Softmax.lean ====
/-
  A row's softmax over the extended reals, in two ways.

  One divides each exponential by the sum of them all; the other first takes the row's largest entry off every entry.
  They agree when the largest entry is finite (`softmax_shift`): then every entry is a real number or `-∞`, so that
  the shift scales every exponential, and their sum, by one positive real number.
-/
module

public import Idealize.ShloMosaic.PureOps.Ideal
public import Idealize.ShloMosaic.PureOps.Ideal.Laws

@[expose] public section

noncomputable section

namespace Cert.Row

open Idealize.ShloMosaic

/-- The real number that the exponential of a row's entry is (at an entry below `+∞`). -/
def expR (x : EReal) : ℝ := if x = ⊥ then 0 else Real.exp x.toReal

theorem expR_nonneg (x : EReal) : 0 ≤ expR x := by
  unfold expR; split
  · exact le_refl _
  · exact (Real.exp_pos _).le

theorem exp_eq {x : EReal} (h : x ≠ ⊤) : Ideal.exp x = (expR x : EReal) := by
  induction x with
  | bot => exact (show Ideal.exp ⊥ = 0 from rfl).trans (by simp [expR])
  | coe r => exact (show Ideal.exp (r : EReal) = ((Real.exp r : ℝ) : EReal) from rfl).trans (by simp [expR])
  | top => exact absurd rfl h

/-- Taking the real number `M` off an entry scales its exponential by `e⁻ᴹ`. -/
theorem expR_sub {x : EReal} (h : x ≠ ⊤) (M : ℝ) : expR (x - (M : EReal)) = expR x * Real.exp (-M) := by
  induction x with
  | bot => simp [expR]
  | coe r =>
    rw [← EReal.coe_sub]
    simp only [expR, EReal.coe_ne_bot, if_false, EReal.toReal_coe]
    rw [sub_eq_add_neg, Real.exp_add]
  | top => exact absurd rfl h

theorem sub_ne_top {x : EReal} (h : x ≠ ⊤) (M : ℝ) : x - (M : EReal) ≠ ⊤ := by
  induction x with
  | bot => simp
  | coe r => rw [← EReal.coe_sub]; exact EReal.coe_ne_top _
  | top => exact absurd rfl h

theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem sum_exp_eq {ι : Type*} [Fintype ι] {l : ι → EReal} (h : ∀ k, l k ≠ ⊤) :
    ∑ k, Ideal.exp (l k) = ((∑ k, expR (l k) : ℝ) : EReal) := by
  rw [← coe_sum]; exact Finset.sum_congr rfl fun k _ => exp_eq (h k)

/-- The division of two real numbers, the divisor not zero. -/
theorem div_coe (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A row's largest entry, `-∞` for a row with none. -/
def peak {n : ℕ} (l : Fin n → EReal) : EReal := Finset.univ.fold max ⊥ l

theorem le_peak {n : ℕ} (l : Fin n → EReal) (k : Fin n) : l k ≤ peak l :=
  (Finset.le_fold_max (l k)).mpr (Or.inr ⟨k, Finset.mem_univ k, le_refl _⟩)

theorem exists_peak {n : ℕ} (l : Fin n → EReal) (h : peak l ≠ ⊥) : ∃ k, l k ≠ ⊥ := by
  by_contra hc
  push Not at hc
  exact h (le_bot_iff.mp ((Finset.fold_max_le (⊥ : EReal)).mpr ⟨le_refl _, fun k _ => (hc k).le⟩))

/-- A number whose absolute value is below `+∞` is real. -/
theorem real_of_abs_lt {x : EReal} (h : max x (-x) < ⊤) : ∃ r : ℝ, x = r := by
  induction x with
  | bot => simp at h
  | coe r => exact ⟨r, rfl⟩
  | top => simp at h

/-- The two softmaxes of a row with a finite largest entry agree. -/
theorem softmax_shift {n : ℕ} (l : Fin n → EReal) (hM : max (peak l) (-peak l) < ⊤) (j : Fin n) :
    Ideal.exp (l j) * Ideal.div 1 (∑ k, Ideal.exp (l k))
      = Ideal.div (Ideal.exp (l j - peak l)) (∑ k, Ideal.exp (l k - peak l)) := by
  obtain ⟨M, hM⟩ := real_of_abs_lt hM
  have ht : ∀ k, l k ≠ ⊤ := fun k hk => by
    have := le_peak l k; rw [hk, hM] at this; exact EReal.coe_ne_top M (top_le_iff.mp this)
  obtain ⟨k₀, hk₀⟩ := exists_peak l (by rw [hM]; exact EReal.coe_ne_bot M)
  have hS : 0 < ∑ k, expR (l k) := by
    refine Finset.sum_pos' (fun k _ => expR_nonneg _) ⟨k₀, Finset.mem_univ _, ?_⟩
    unfold expR; rw [if_neg hk₀]; exact Real.exp_pos _
  have hS' : ∑ k, expR (l k - peak l) = (∑ k, expR (l k)) * Real.exp (-M) := by
    rw [Finset.sum_mul]; exact Finset.sum_congr rfl fun k _ => by rw [hM, expR_sub (ht k)]
  have hE := Real.exp_pos (-M)
  rw [sum_exp_eq ht, sum_exp_eq (l := fun k => l k - peak l) (fun k => by rw [hM]; exact sub_ne_top (ht k) M), hS',
    exp_eq (ht j), exp_eq (by rw [hM]; exact sub_ne_top (ht j) M), hM, expR_sub (ht j), div_coe _ (mul_pos hS hE).ne',
    show (1 : EReal) = ((1 : ℝ) : EReal) from rfl, div_coe _ hS.ne', ← EReal.coe_mul]
  congr 1
  field_simp

end Cert.Row

end
-- ==== Proof.Reference.lean ====
/-
  What the reference and the precondition compute, at an index.

  A row's logits are `∑ₖ x k · W c k + b c`.  The precondition says that each row's largest logit is finite (`peak_of_pre`);
  the reference's result is the row's softmax with that largest logit taken off (`value_apply`).
-/
module

public import proofs.«01_k».proof.Defs
public import proofs.«01_k».proof.Proof.Softmax
public import proofs.«01_k».proof.Proof.Gen.ReferenceIdeal
public import proofs.«01_k».proof.Proof.Gen.ReferenceIdeal.Run
public import Idealize.ShloMosaic.Lib.Pointwise
public import Idealize.ShloMosaic.Lib.IdealHost

@[expose] public section

noncomputable section

namespace Cert.ReferenceIdeal.Hand

open Cert.ReferenceIdeal Cert.ReferenceIdeal.Gen
open Idealize.ShloMosaic Idealize.ShloMosaic.TcCoe Idealize.SL.Sem

/-- The logits of a row `x` at the weights `w` and the bias `b`. -/
def logit (x : Fin 768 → EReal) (w : Fin 768 → Fin 768 → EReal) (b : Fin 768 → EReal) : Fin 768 → EReal :=
  fun c => ∑ k, x k * w c k + b c

variable (X : FVec Ideal S32768x768 .f32) (W : FVec Ideal S768x768 .f32) (B : FVec Ideal S768 .f32)

/-- The logits of row `n` of the whole token array. -/
def rowLogit (n : Fin 32768) : Fin 768 → EReal :=
  logit (fun k => X (ix2 n k)) (fun c k => W (ix2 c k)) (fun c => B (ix1 c))

/-- The array of logits as the program writes it. -/
def logits : FVec Ideal S32768x768 .f32 :=
  addf (Host.dotGeneral dot_S32768x768_S768x768_S32768x768_1_0_0_1_n_n none X (transpose S768x768 [1, 0] W transposes_S768x768_S768x768_1_0))
    (broadcastInDim S32768x768 ![0, 1] bcast_S1x768_S32768x768_0_1 (broadcastInDim S1x768 ![1] bcast_S768_S1x768_1 B))

theorem logits_apply (j : S32768x768.Idx) : logits X W B j = rowLogit X W B (j 0) (j 1) := by
  pointwise [logits, rowLogit, logit]

/-! ## Reductions along a row, for any extents -/

theorem reduceMax_row {n c : ℕ} {u : Shape} (x : (⟨2, ![n, c]⟩ : Shape).Idx → EReal) (init : u.Idx → EReal)
    (h : (⟨2, ![n, c]⟩ : Shape).ReducesTo [1] ⟨1, ![n]⟩) (hu : 0 < u.numel) (i : (⟨1, ![n]⟩ : Shape).Idx) :
    Host.reduce (FloatOps.maximumf (F := Ideal) (φ := .f32)) x init h hu i
      = Finset.univ.fold max (init (Shape.Idx.first hu)) fun k : Fin c => x (ix2 (i 0) k) := by
  rw [Host.reduce_eq_fold, h.fold_fiber_r2_a1]
  rfl

theorem reduceAdd_row {n c : ℕ} {u : Shape} (x : (⟨2, ![n, c]⟩ : Shape).Idx → EReal) (init : u.Idx → EReal)
    (h : (⟨2, ![n, c]⟩ : Shape).ReducesTo [1] ⟨1, ![n]⟩) (hu : 0 < u.numel) (i : (⟨1, ![n]⟩ : Shape).Idx) :
    Host.reduceAdd (F := Ideal) (φ := .f32) x init h hu i
      = init (Shape.Idx.first hu) + ∑ k : Fin c, x (ix2 (i 0) k) := by
  rw [Host.reduceAdd_apply]
  exact Ideal.hostReduceAdd_r2_a1 h x _ i

/-- The word of `-∞`. -/
theorem negInf : Ideal.ofBits .f32 0xFF800000#32 = ⊥ := by
  simp [Ideal.ofBits, Ideal.ieee]
/-- The word of `+∞`. -/
theorem posInf : Ideal.ofBits .f32 0x7F800000#32 = ⊤ := by
  simp [Ideal.ofBits, Ideal.ieee]

/-- The largest logit of each row as the program writes it. -/
def peaks (L : FVec Ideal S32768x768 .f32) : FVec Ideal S32768 .f32 :=
  Host.reduce FloatOps.maximumf L (constant S_ .f32 0xFF800000#32) reducesTo_S32768x768_S32768_d1 h_S_

theorem peaks_apply (L : FVec Ideal S32768x768 .f32) (i : S32768.Idx) : peaks L i = Row.peak fun k => L (ix2 (i 0) k) := by
  refine (reduceMax_row L _ _ _ i).trans ?_
  show Finset.univ.fold max (Ideal.ofBits .f32 0xFF800000#32) _ = _
  rw [negInf]; rfl

/-- The exponentials of the logits less their row's largest, as the program writes them. -/
def shifted (L : FVec Ideal S32768x768 .f32) (P : FVec Ideal S32768 .f32) : FVec Ideal S32768x768 .f32 :=
  Host.exp (subf L (broadcastInDim S32768x768 ![0, 1] bcast_S32768x1_S32768x768_0_1 (broadcastInDim S32768x1 ![0] bcast_S32768_S32768x1_0
    (maximumf (broadcastInDim S32768 ![] bcast_S_S32768 (constant S_ .f32 0xFF800000#32)) P))))

theorem shifted_apply (L : FVec Ideal S32768x768 .f32) (P : FVec Ideal S32768 .f32) (j : S32768x768.Idx) :
    shifted L P j = Ideal.exp (L j - P (ix1 (j 0))) := by
  have h : shifted L P j = Ideal.exp (L j - max (Ideal.ofBits .f32 0xFF800000#32) (P (ix1 (j 0)))) := by
    pointwise [shifted]
  rw [h, negInf, max_eq_right bot_le]

/-- The sum of each row. -/
def sums (E : FVec Ideal S32768x768 .f32) : FVec Ideal S32768 .f32 :=
  Host.reduceAdd E (constant S_ .f32 0x00000000#32) reducesTo_S32768x768_S32768_d1 h_S_

theorem sums_apply (E : FVec Ideal S32768x768 .f32) (i : S32768.Idx) : sums E i = ∑ k : Fin 768, E (ix2 (i 0) k) := by
  refine (reduceAdd_row E _ _ _ i).trans ?_
  show Ideal.ofBits .f32 0x00000000#32 + _ = _
  rw [show Ideal.ofBits .f32 0x00000000#32 = 0 by simp [Ideal.ofBits, Ideal.ieee], zero_add]

/-- Each entry divided by its row's number. -/
def quotient (E : FVec Ideal S32768x768 .f32) (s : FVec Ideal S32768 .f32) : FVec Ideal S32768x768 .f32 :=
  Host.divf E (broadcastInDim S32768x768 ![0, 1] bcast_S32768x1_S32768x768_0_1 (broadcastInDim S32768x1 ![0] bcast_S32768_S32768x1_0 s))

theorem quotient_apply (E : FVec Ideal S32768x768 .f32) (s : FVec Ideal S32768 .f32) (j : S32768x768.Idx) :
    quotient E s j = Ideal.div (E j) (s (ix1 (j 0))) := by
  pointwise [quotient]

/-- The reference's result. -/
def value : FVec Ideal S32768x768 .f32 :=
  quotient (shifted (logits X W B) (peaks (logits X W B))) (sums (shifted (logits X W B) (peaks (logits X W B))))

/-- The reference's result at token `n`, column `c`: the row's softmax with its largest logit taken off. -/
theorem value_apply (j : S32768x768.Idx) :
    value X W B j = Ideal.div (Ideal.exp (rowLogit X W B (j 0) (j 1) - Row.peak (rowLogit X W B (j 0))))
      (∑ k, Ideal.exp (rowLogit X W B (j 0) k - Row.peak (rowLogit X W B (j 0)))) := by
  have hp (n : Fin 32768) : peaks (logits X W B) (ix1 n) = Row.peak (rowLogit X W B n) := by
    rw [peaks_apply]
    exact congrArg Row.peak (funext fun k => logits_apply X W B (ix2 n k))
  have hs (i : S32768x768.Idx) : shifted (logits X W B) (peaks (logits X W B)) i
      = Ideal.exp (rowLogit X W B (i 0) (i 1) - Row.peak (rowLogit X W B (i 0))) := by
    rw [shifted_apply, logits_apply]
    exact congrArg (fun p => Ideal.exp (rowLogit X W B (i 0) (i 1) - p)) (hp (i 0))
  unfold value
  rw [quotient_apply, sums_apply, hs]
  refine congrArg _ (Finset.sum_congr rfl fun k _ => ?_)
  exact hs (ix2 (j 0) k)

/-! ## The precondition -/

/-- The side conditions that the precondition's operations state. -/
instance preFacts : Cert.Pre_finite_peaks.Facts where
  transposes_S768x768_S768x768_1_0 := transposes_S768x768_S768x768_1_0
  bcast_S768_S1x768_1 := bcast_S768_S1x768_1
  bcast_S1x768_S32768x768_0_1 := bcast_S1x768_S32768x768_0_1
  reducesTo_S32768x768_S32768_d1 := reducesTo_S32768x768_S32768_d1
  h_S_ := h_S_
  bcast_S_S32768 := bcast_S_S32768
  dot_S32768x768_S768x768_S32768x768_1_0_0_1_n_n_wf := by decide

/-- Below `+∞` in absolute value, element by element. -/
def finite (P : FVec Ideal S32768 .f32) : IVec S32768 1 :=
  cmpf .olt (Host.absf P) (broadcastInDim S32768 ![] bcast_S_S32768 (constant S_ .f32 0x7F800000#32))

theorem finite_apply (P : FVec Ideal S32768 .f32) (i : S32768.Idx) :
    finite P i = BitVec.ofBool (decide (FloatOps.absf (P i) < Ideal.ofBits .f32 0x7F800000#32)) := by
  pointwise [finite]

theorem pre_eq : Cert.Pre_finite_peaks.fn X W B = finite (peaks (logits X W B)) := rfl

/-- Where the precondition holds, every row's largest logit is finite. -/
theorem peak_of_pre (h : Cert.Pre_finite_peaks.fn X W B = fun _ => 1#1) (n : Fin 32768) :
    max (Row.peak (rowLogit X W B n)) (-Row.peak (rowLogit X W B n)) < ⊤ := by
  have h1 := congrFun ((pre_eq X W B).symm.trans h) (ix1 n)
  rw [finite_apply, posInf] at h1
  have h2 : peaks (logits X W B) (ix1 n) = Row.peak (rowLogit X W B n) :=
    (peaks_apply _ _).trans (congrArg Row.peak (funext fun k => logits_apply X W B (ix2 n k)))
  rw [h2] at h1
  by_contra hc
  have h3 : BitVec.ofBool false = 1#1 := (congrArg BitVec.ofBool (decide_eq_false hc)).symm.trans h1
  exact absurd h3 (by decide)

/-! ## The run -/

theorem run_main (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v15)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨h, sem_eq_zero_of_no_sems (by decide) r.2⟩) (Value.run (F := Ideal) m ρ)

end Cert.ReferenceIdeal.Hand

end
-- ==== Proof.Block.lean ====
/-
  What the kernel computes over the extended reals, at an index.

  A chunk's row is the exponentials of the row's logits times one over their sum, whichever the chunk's size
  (`pay512_apply`, `pay1024_apply`), so that the result has that at every row (`outRow_apply`).
-/
module

public import proofs.«01_k».proof.Proof.Contents
public import proofs.«01_k».proof.Proof.Reference
public import Idealize.ShloMosaic.Lib.Pointwise

@[expose] public section

noncomputable section

namespace Cert.KernelIdeal.Hand

open Cert.KernelIdeal Cert.KernelIdeal.Gen
open Idealize.ShloMosaic Idealize.ShloMosaic.TcCoe
open Cert.ReferenceIdeal.Hand (logit)

variable (w : Vec Ideal S768x768 .bf16) (b : Vec Ideal S1x768 .f32)

/-- The softmax of a row as the kernel computes it. -/
def soft (l : Fin 768 → EReal) (c : Fin 768) : EReal := Ideal.exp (l c) * Ideal.div 1 (∑ k, Ideal.exp (l k))

/-- The logits of a row at the staged weights and bias. -/
def stagedLogit (x : Fin 768 → EReal) : Fin 768 → EReal :=
  logit x (fun c k => w (Idealize.ShloMosaic.ix2 c k)) (fun c => b (Idealize.ShloMosaic.ix2 0 c))

theorem pay512_apply (x : Vec Ideal (blk3 512) .f32) (j : (blk3 512).Idx) :
    pay512 x w b j = soft (stagedLogit w b fun k => x (Idealize.ShloMosaic.ix3 0 (j 1) k)) (j 2) := by
  pointwise [pay512, soft, stagedLogit, logit]

theorem pay1024_apply (x : Vec Ideal (blk3 1024) .f32) (j : (blk3 1024).Idx) :
    pay1024 x w b j = soft (stagedLogit w b fun k => x (Idealize.ShloMosaic.ix3 0 (j 1) k)) (j 2) := by
  pointwise [pay1024, soft, stagedLogit, logit]

/-- A chunk's row is the token array's. -/
theorem blkOf_row (X : S32768x768.Idx → EReal) (R : ℕ) (hR : 0 < R) (n : Fin 32768) (c k : Fin 768) :
    blkOf (F := Ideal) X R (R * ((n : ℕ) / R)) (Idealize.ShloMosaic.ix3 0 (ix3 R hR n c 1) k) = X (Idealize.ShloMosaic.ix2 n k) := by
  unfold blkOf
  refine congrArg X (idx2_ext ?_ ?_)
  · show (R * ((n : ℕ) / R) + (n : ℕ) % R) % 32768 = n
    rw [Nat.div_add_mod]; exact Nat.mod_eq_of_lt n.isLt
  · rfl

/-- The result's row is the softmax of the token's logits. -/
theorem outRow_apply (X : S32768x768.Idx → EReal) (j : S32768x768.Idx) :
    outRow (F := Ideal) X w b j = soft (stagedLogit w b fun k => X (Idealize.ShloMosaic.ix2 (j 0) k)) (j 1) := by
  unfold outRow
  split
  · rw [pay512_apply]
    exact congrArg (fun x => soft (stagedLogit w b x) (j 1)) (funext fun k => blkOf_row X 512 _ (j 0) (j 1) k)
  · rw [pay1024_apply]
    exact congrArg (fun x => soft (stagedLogit w b x) (j 1)) (funext fun k => blkOf_row X 1024 _ (j 0) (j 1) k)

end Cert.KernelIdeal.Hand

end
-- ==== Proof.Staged.lean ====
/-
  What the kernel's body finds in its two staged operands: the weights, their cast to bf16 the identity over the
  extended reals (`wv_apply`), and the bias as a row (`bv_apply`).
-/
module

public import proofs.«01_k».proof.Proof.Run
public import Idealize.ShloMosaic.Lib.Pointwise
public import Idealize.ShloMosaic.Lib.Claim
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem V_weights : V m c main_call0_v1
    = (truncf .bf16 (m ((c.tc : Thread nD τ).loc main_arg1) : FVec Ideal S768x768 .f32) bitsLt_bf16_f32 : FVec Ideal S768x768 .bf16) := by
  entry_read; rfl
theorem V_bias : V m c main_call0_v0 = shapeCast S1x768 (m ((c.tc : Thread nD τ).loc main_arg2)) shapeCasts_S768_S1x768 := by
  entry_read; rfl

/-- Each staged operand is its whole array, at the origin. -/
theorem index_weights (a : Fin 2) : win0_0.index t0_0 a = 0 := rfl
theorem index_bias (a : Fin 2) : win0_1.index t0_0 a = 0 := rfl

theorem wv_eq : wv m c = V m c main_call0_v1 := by
  funext j
  unfold wv
  blk_simp [iblk]
  refine congrArg (V m c main_call0_v1) (idx2_ext ?_ ?_) <;> blk_simp [index_weights] <;> simp only [index_weights, Nat.zero_mul, Nat.zero_add]
theorem bv_eq : bv m c = V m c main_call0_v0 := by
  funext j
  unfold bv
  blk_simp [iblk]
  refine congrArg (V m c main_call0_v0) (idx2_ext ?_ ?_) <;> blk_simp [index_bias] <;> simp only [index_bias, Nat.zero_mul, Nat.zero_add]

theorem wv_apply (r k : Fin 768) : wv m c (Idealize.ShloMosaic.ix2 r k) = m ((c.tc : Thread nD τ).loc main_arg1) (Idealize.ShloMosaic.ix2 r k) := by
  rw [wv_eq, V_weights]; rfl
theorem bv_apply (k : Fin 768) : bv m c (Idealize.ShloMosaic.ix2 0 k) = m ((c.tc : Thread nD τ).loc main_arg2) (Idealize.ShloMosaic.ix1 k) := by
  rw [bv_eq, V_bias]
  pointwise

end Cert.KernelIdeal.Hand

end
-- ==== Proof.Equation.lean ====
/-
  Kernel and reference compute one function over the extended reals.

  At every token the kernel's row is the softmax of the token's logits, the reference's that softmax with the largest
  logit taken off; the precondition makes the two equal (`result_eq`).
-/
module

public import proofs.«01_k».proof.Proof.Block
public import proofs.«01_k».proof.Proof.Staged

@[expose] public section

noncomputable section

namespace Cert.KernelIdeal.Hand

open Cert.KernelIdeal Cert.KernelIdeal.Gen
open Idealize.ShloMosaic Idealize.ShloMosaic.TcCoe
open Cert.ReferenceIdeal.Hand (logit rowLogit value value_apply peak_of_pre)

variable (m : (ℓ : Loc nD τ sig) → Buf (Elt Ideal) ℓ) (c : Dev nD)

/-- The token array, the weights and the bias that the program is given. -/
def argX : FVec Ideal S32768x768 .f32 := m ((c.tc : Thread nD τ).loc main_arg0)
def argW : FVec Ideal S768x768 .f32 := m ((c.tc : Thread nD τ).loc main_arg1)
def argB : FVec Ideal S768 .f32 := m ((c.tc : Thread nD τ).loc main_arg2)

/-- The kernel's result at an index: the softmax of the token's logits. -/
theorem result_apply (j : S32768x768.Idx) :
    result m c j = soft (rowLogit (argX m c) (argW m c) (argB m c) (j 0)) (j 1) := by
  unfold result
  rw [outRow_apply, V_main_arg0]
  refine congrArg (fun l => soft l (j 1)) ?_
  unfold stagedLogit rowLogit
  exact congrArg₂ (logit _) (funext fun r => funext fun k => wv_apply m c r k) (funext fun k => bv_apply m c k)

/-- Where the precondition holds, the kernel's result is the reference's. -/
theorem result_eq (h : Cert.Pre_finite_peaks.fn (F := Ideal) (argX m c) (argW m c) (argB m c) = fun _ => 1#1) :
    result m c = value (argX m c) (argW m c) (argB m c) := by
  funext j
  rw [result_apply, value_apply]
  exact Row.softmax_shift _ (peak_of_pre _ _ _ h (j 0)) (j 1)

end Cert.KernelIdeal.Hand

end
-- ==== Proof.lean ====
/-
  The certificate's claim, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameText
public import proofs.«01_k».proof.Proof.Run
public import proofs.«01_k».proof.Proof.Reference
public import proofs.«01_k».proof.Proof.Equation

@[expose] public section

noncomputable section

namespace Cert.Proof

open Idealize.ShloMosaic Idealize.ShloMosaic.TcCoe Idealize.SL.Sem

/-- The idealized kernel terminates without fault, its arguments unchanged and every semaphore at zero. -/
theorem frame_kernel : Cert.quiescent_KernelIdeal := fun m g _ =>
  (θ_run _ _ _).mono (fun _ h => ⟨fun c => (h.1 c).2, h.2⟩) (Cert.KernelIdeal.Hand.run_main (F := Ideal) m g)

/-- So in particular under the precondition. -/
theorem frame_kernel_pre : Cert.quiescent_KernelIdeal_pre_finite_peaks := fun m g _ => frame_kernel m g trivial

/-- The reference terminates without fault, its arguments unchanged; it has no semaphore. -/
theorem frame_reference : Cert.quiescent_ReferenceIdeal := fun m g _ =>
  (θ_run _ _ _).mono (fun _ h => ⟨fun c => (h.1 c).2, h.2⟩) (Cert.ReferenceIdeal.Hand.run_main m g)

/-- So in particular under the precondition. -/
theorem frame_reference_pre : Cert.quiescent_ReferenceIdeal_pre_finite_peaks := fun m g _ => frame_reference m g trivial

/-- From equal arguments whose rows of logits have finite largest entries, both programs end with one result. -/
theorem algebraic : Cert.algebraic_KernelIdeal_ReferenceIdeal_pre_finite_peaks := by
  intro m g m' g' hpre hargs
  refine ⟨fun c => Cert.KernelIdeal.Hand.result m c,
    (θ_run _ _ _).mono (fun _ h => h.1) (Cert.KernelIdeal.Hand.run_main (F := Ideal) m g),
    (θ_run _ _ _).mono (fun _ h c => ⟨?_, (h.1 c).2⟩) (Cert.ReferenceIdeal.Hand.run_main m' g')⟩
  refine (h.1 c).1.trans ?_
  obtain ⟨e0, e1, e2⟩ := hargs c
  rw [e0, e1, e2]
  exact (Cert.KernelIdeal.Hand.result_eq m c (hpre c)).symm

theorem claim : Cert.Claim :=
  ⟨Cert.Kernel.Gen.facts, Cert.KernelIdeal.Gen.facts, Cert.ReferenceIdeal.Gen.facts, Cert.ReferenceIdeal.Hand.preFacts,
    Cert.SameText.quiescent, frame_kernel, frame_kernel_pre, frame_reference, frame_reference_pre, trivial, algebraic⟩

end Cert.Proof

end
